-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xFF61B1E6#32 ⊥
  ∧ IdealRules.named_const.Statement Cert.KernelIdeal.κ "log2e" .f32 0x3FB8AA3B#32 (((Real.log 2)⁻¹ : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x64x32x32 : Shape := ⟨4, ![8, 64, 32, 32]⟩
abbrev S8192x64 : Shape := ⟨2, ![8192, 64]⟩
abbrev S8x32x32x64 : Shape := ⟨4, ![8, 32, 32, 64]⟩
abbrev S64x8192 : Shape := ⟨2, ![64, 8192]⟩
abbrev S8192x8192 : Shape := ⟨2, ![8192, 8192]⟩
abbrev S8192x9 : Shape := ⟨2, ![8192, 9]⟩
abbrev S8192x8 : Shape := ⟨2, ![8192, 8]⟩
abbrev S_ : Shape := ⟨0, ![]⟩
abbrev S8192x1 : Shape := ⟨2, ![8192, 1]⟩
abbrev S8192 : Shape := ⟨1, ![8192]⟩

class Facts : Prop where
  transposes_S8x64x32x32_S8x32x32x64_0_2_3_1 : S8x64x32x32.Transposes [0, 2, 3, 1] S8x32x32x64
  shapeCasts_S8x32x32x64_S8192x64 : S8x32x32x64.ShapeCasts S8192x64
  transposes_S8192x64_S64x8192_1_0 : S8192x64.Transposes [1, 0] S64x8192
  sliceFits_S8192x8192_S8192x9 : S8192x8192.Slices (fun _ => 0) S8192x9
  slices_S8192x9_S8192x8_0_0 : S8192x9.Slices ![0, 0] S8192x8
  slices_S8192x9_S8192x8_0_1 : S8192x9.Slices ![0, 1] S8192x8
  reducesTo_S8192x8_S_d0_1 : S8192x8.ReducesTo [0, 1] S_
  h_S_ : 0 < S_.numel
  slices_S8192x9_S8192x1_0_0 : S8192x9.Slices ![0, 0] S8192x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S8192x64_S64x8192_S8192x8192_1_0_0_1_n_n_wf : DotDims.WF S8192x64 S64x8192 S8192x8192 [1] [0] [0] [1] [] []

variable [Facts]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def fn {F : FTy → Type} [FloatOps F] (main_arg0 : FVec F S8x64x32x32 .f32) (main_arg1 : FVec F S8192x64 .f32) : IVec S_ 1 :=
  let main_v0 : FVec F S8x32x32x64 .f32 := (transpose S8x32x32x64 [0, 2, 3, 1] · transposes_S8x64x32x32_S8x32x32x64_0_2_3_1) main_arg0
  let main_v1 : FVec F S8192x64 .f32 := shapeCast S8192x64 main_v0 shapeCasts_S8x32x32x64_S8192x64
  let main_v2 : FVec F S64x8192 .f32 := (transpose S64x8192 [1, 0] · transposes_S8192x64_S64x8192_1_0) main_arg1
  let main_v3 : FVec F S8192x8192 .f32 := (fun l r => Host.dotGeneral dot_S8192x64_S64x8192_S8192x8192_1_0_0_1_n_n none l r) main_v1 main_v2
  let main_values : FVec F S8192x9 .f32 := (fun x => (Host.topK S8192x9 1 (FloatOps.cmpfTotal .gt) x sliceFits_S8192x8192_S8192x9).1) main_v3
  let main_indices : IVec S8192x9 32 := (fun x => (Host.topK S8192x9 1 (FloatOps.cmpfTotal .gt) x sliceFits_S8192x8192_S8192x9).2) main_v3
  let main_v4 : FVec F S8192x8 .f32 := (extractStridedSlice S8192x8 ![0, 0] · slices_S8192x9_S8192x8_0_0) main_values
  let main_v5 : FVec F S8192x8 .f32 := (extractStridedSlice S8192x8 ![0, 1] · slices_S8192x9_S8192x8_0_1) main_values
  let main_v6 : IVec S8192x8 1 := cmpf .ogt main_v4 main_v5
  let main_c : IVec S_ 1 := constantI S_ 1 1#1
  let main_v7 : IVec S_ 1 := (fun x v => Host.reduce IntOp.andi x v reducesTo_S8192x8_S_d0_1 h_S_) main_v6 main_c
  let main_v8 : FVec F S8192x1 .f32 := (extractStridedSlice S8192x1 ![0, 0] · slices_S8192x9_S8192x1_0_0) main_values
  let main_v9 : FVec F S8192 .f32 := shapeCast S8192 main_v8 shapeCasts_S8192x1_S8192
  let main_cst : FVec F S_ .f32 := constant S_ .f32 0x7F800000#32
  let main_v10 : FVec F S8192 .f32 := broadcastInDim S8192 ![] bcast_S_S8192 main_cst
  let main_v11 : IVec S8192 1 := cmpf .olt main_v9 main_v10
  let main_c_0 : IVec S_ 1 := constantI S_ 1 1#1
  let main_v12 : IVec S_ 1 := (fun x v => Host.reduce IntOp.andi x v reducesTo_S8192_S_d0 h_S_) main_v11 main_c_0
  let main_v13 : IVec S_ 1 := andi main_v7 main_v12
  main_v13
-- ==== Kernel.lean ====
abbrev S8x64x32x32 : Shape := ⟨4, ![8, 64, 32, 32]⟩
abbrev S8192x64 : Shape := ⟨2, ![8192, 64]⟩
abbrev S8x32x32x64 : Shape := ⟨4, ![8, 32, 32, 64]⟩
abbrev S256x64 : Shape := ⟨2, ![256, 64]⟩
abbrev S256x8192 : Shape := ⟨2, ![256, 8192]⟩
abbrev S256x1024 : Shape := ⟨2, ![256, 1024]⟩
abbrev S16x8192 : Shape := ⟨2, ![16, 8192]⟩
abbrev S16x128 : Shape := ⟨2, ![16, 128]⟩
abbrev S16x1024 : Shape := ⟨2, ![16, 1024]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x64x32x32, .f32⟩
  | .hbm, ⟨1, _⟩ => ⟨S8192x64, .f32⟩
  | .hbm, ⟨2, _⟩ => ⟨S8x32x32x64, .f32⟩
  | .hbm, ⟨3, _⟩ => ⟨S8192x64, .f32⟩
  | .hbm, ⟨4, _⟩ => ⟨S8192x64, .f32⟩
  | .hbm, ⟨5, _⟩ => ⟨S8x32x32x64, .f32⟩
  | .hbm, ⟨6, _⟩ => ⟨S8x64x32x32, .f32⟩
  | .local _ .vmem, ⟨0, _⟩ => ⟨S256x64, .f32⟩
  | .local _ .vmem, ⟨1, _⟩ => ⟨S256x64, .f32⟩
  | .local _ .vmem, ⟨2, _⟩ => ⟨S8192x64, .f32⟩
  | .local _ .vmem, ⟨3, _⟩ => ⟨S256x64, .f32⟩
  | .local _ .vmem, ⟨4, _⟩ => ⟨S256x64, .f32⟩
  | .local _ .vmem, ⟨5, _⟩ => ⟨S256x8192, .f32⟩
  | .local _ .vmem, ⟨6, _⟩ => ⟨S256x8192, .f32⟩
  | .local _ .vmem, ⟨7, _⟩ => ⟨S256x1024, .f32⟩
  | _, _ => ⟨S8x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v4 : BitVec 1 := Scalar.cmpi .eq v0 c0_i32
  let v5 : BitVec 32 := Scalar.extui v4
  let c0_i32_3 : BitVec 32 := 0#32
  let v6 : BitVec 1 := Scalar.cmpi .ne v5 c0_i32_3
  v6

@[reducible] def k0_t1_loop : Scf.Loop 32 :=
  let c0_i32_6 : BitVec 32 := 0#32
  let c16_i32 : BitVec 32 := 16#32
  let v13 : BitVec 32 := Scalar.addi c0_i32_6 c16_i32
  let c1_i32_7 : BitVec 32 := 1#32
  ⟨c0_i32_6, v13, c1_i32_7⟩
def k0_off1 (k0_t1 : Fin k0_t1_loop.trips) : Fin 2 → Nat :=
  let c0_i32_6 : BitVec 32 := 0#32
  let c1_i32_7 : BitVec 32 := 1#32
  let arg7 : BitVec 32 := Scf.iv c0_i32_6 c1_i32_7 k0_t1
  let c16_i32_37 : BitVec 32 := 16#32
  let v81 : BitVec 32 := Scalar.muli arg7 c16_i32_37
  let v82 : Index := Scalar.indexCast v81
  let c0_38 : Index := 0#32
  ![v82.toNat, 0]
def k0_off2 (k0_t1 : Fin k0_t1_loop.trips) : Fin 2 → Nat :=
  let c0_i32_6 : BitVec 32 := 0#32
  let c1_i32_7 : BitVec 32 := 1#32
  let arg7 : BitVec 32 := Scf.iv c0_i32_6 c1_i32_7 k0_t1
  let c16_i32_39 : BitVec 32 := 16#32
  let v653 : BitVec 32 := Scalar.muli arg7 c16_i32_39
  let v654 : Index := Scalar.indexCast v653
  let c0_40 : Index := 0#32
  ![v654.toNat, 0]
def k0_cond3 (i : grid0.Coords) : BitVec 1 :=
  let arg0 : BitVec 32 := BitVec.ofNat 32 (i 0).val
  let c2_i32 : BitVec 32 := 2#32
  let v0 : BitVec 32 := Scalar.remsi arg0 c2_i32
  let c1_i32 : BitVec 32 := 1#32
  let v7 : BitVec 1 := Scalar.cmpi .eq v0 c1_i32
  let v8 : BitVec 32 := Scalar.extui v7
  let c0_i32_4 : BitVec 32 := 0#32
  let v9 : BitVec 1 := Scalar.cmpi .ne v8 c0_i32_4
  v9

@[reducible] def k0_t2_loop : Scf.Loop 32 :=
  let c0_i32_6 : BitVec 32 := 0#32
  let c16_i32 : BitVec 32 := 16#32
  let v13 : BitVec 32 := Scalar.addi c0_i32_6 c16_i32
  let c1_i32_7 : BitVec 32 := 1#32
  ⟨c0_i32_6, v13, c1_i32_7⟩
def k0_off3 (k0_t2 : Fin k0_t2_loop.trips) : Fin 2 → Nat :=
  let c0_i32_6 : BitVec 32 := 0#32
  let c1_i32_7 : BitVec 32 := 1#32
  let arg7 : BitVec 32 := Scf.iv c0_i32_6 c1_i32_7 k0_t2
  let c16_i32_37 : BitVec 32 := 16#32
  let v81 : BitVec 32 := Scalar.muli arg7 c16_i32_37
  let v82 : Index := Scalar.indexCast v81
  let c0_38 : Index := 0#32
  ![v82.toNat, 0]
def k0_off4 (k0_t2 : Fin k0_t2_loop.trips) : Fin 2 → Nat :=
  let c0_i32_6 : BitVec 32 := 0#32
  let c1_i32_7 : BitVec 32 := 1#32
  let arg7 : BitVec 32 := Scf.iv c0_i32_6 c1_i32_7 k0_t2
  let c16_i32_39 : BitVec 32 := 16#32
  let v653 : BitVec 32 := Scalar.muli arg7 c16_i32_39
  let v654 : Index := Scalar.indexCast v653
  let c0_40 : Index := 0#32
  ![v654.toNat, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x64x32x32 : Shape := ⟨4, ![8, 64, 32, 32]⟩
abbrev S8192x64 : Shape := ⟨2, ![8192, 64]⟩
abbrev S8x32x32x64 : Shape := ⟨4, ![8, 32, 32, 64]⟩
abbrev S64x8192 : Shape := ⟨2, ![64, 8192]⟩
abbrev S8192x8192 : Shape := ⟨2, ![8192, 8192]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S8192x8x1 : Shape := ⟨3, ![8192, 8, 1]⟩
abbrev S8192x8x2 : Shape := ⟨3, ![8192, 8, 2]⟩

abbrev nBuf : Space → Nat
  | .hbm => 48
  | .vmem => 0
  | .smem => 0
  | _ => 0

abbrev bufTy : (tb : Table) → Fin (tcTables nBuf tb) → BufTy
  | .hbm, ⟨0, _⟩ => ⟨S8x64x32x32, .f32⟩
  | .hbm, ⟨1, _⟩ => ⟨S8192x64, .f32⟩
  | .hbm, ⟨2, _⟩ => ⟨S8x32x32x64, .f32⟩
  | .hbm, ⟨3, _⟩ => ⟨S8192x64, .f32⟩
  | .hbm, ⟨4, _⟩ => ⟨S64x8192, .f32⟩
  | .hbm, ⟨5, _⟩ => ⟨S8192x8192, .f32⟩
  | .hbm, ⟨6, _⟩ => ⟨S8192x8, .f32⟩
  | .hbm, ⟨7, _⟩ => ⟨S8192x8, .i32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8, .f32⟩
  | .hbm, ⟨21, _⟩ => ⟨S8192x8, .f32⟩
  | .hbm, ⟨22, _⟩ => ⟨S8192, .i32⟩
  | .hbm, ⟨23, _⟩ => ⟨S8192x1, .i32⟩
  | .hbm, ⟨24, _⟩ => ⟨S_, .f32⟩
  | .hbm, ⟨25, _⟩ => ⟨S8192x8192, .f32⟩
  | .hbm, ⟨26, _⟩ => ⟨S_, .i32⟩
  | .hbm, ⟨27, _⟩ => ⟨S8192x1, .i32⟩
  | .hbm, ⟨28, _⟩ => ⟨S8192x1, .i1⟩
  | .hbm, ⟨29, _⟩ => ⟨S_, .i32⟩
  | .hbm, ⟨30, _⟩ => ⟨S8192x1, .i32⟩
  | .hbm, ⟨31, _⟩ => ⟨S8192x1, .i32⟩
  | .hbm, ⟨32, _⟩ => ⟨S8192x1, .i32⟩
  | .hbm, ⟨33, _⟩ => ⟨S_, .i32⟩
  | .hbm, ⟨34, _⟩ => ⟨S8192x8, .i32⟩
  | .hbm, ⟨35, _⟩ => ⟨S8192x8, .i1⟩
  | .hbm, ⟨36, _⟩ => ⟨S_, .i32⟩
  | .hbm, ⟨37, _⟩ => ⟨S8192x8, .i32⟩
  | .hbm, ⟨38, _⟩ => ⟨S8192x8, .i32⟩
  | .hbm, ⟨39, _⟩ => ⟨S8192x8, .i32⟩
  | .hbm, ⟨40, _⟩ => ⟨S8192x8, .i32⟩
  | .hbm, ⟨41, _⟩ => ⟨S8192x8x1, .i32⟩
  | .hbm, ⟨42, _⟩ => ⟨S8192x8x1, .i32⟩
  | .hbm, ⟨43, _⟩ => ⟨S8192x8x2, .i32⟩
  | .hbm, ⟨44, _⟩ => ⟨S8192x8192, .f32⟩
  | .hbm, ⟨45, _⟩ => ⟨S8192x64, .f32⟩
  | .hbm, ⟨46, _⟩ => ⟨S8x32x32x64, .f32⟩
  | .hbm, ⟨47, _⟩ => ⟨S8x64x32x32, .f32⟩
  | _, _ => ⟨S8x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Proof.KernelRun.lean ====
/-
  One grid point of the kernel, run once: from the two inputs at their blocks and every other buffer at anything, the body
  runs to its return, leaves the inputs as they were and the other buffers at some contents.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer held whole, at some contents. -/
abbrev some_ (c : Dev nD) {S : Shape} (M : Memref sig .tc .vmem S .f32) : sProp 𝕄 :=
  iprop(∃ d, owns (c : Thread nD τ) M fullShare d)

/-- The kernel at an even grid point: it runs to its return and keeps its two inputs. -/
theorem run_even (c : Dev nD) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole)
    (h1 : k0_cond1 i = 1#1) (h3 : ¬ k0_cond3 i = 1#1)
    (d1 : S256x64.Idx → Elt F .f32) (d2 : S8192x64.Idx → Elt F .f32) (K : PUnit → sProp 𝕄) :
    iprop(owns (c : Thread nD τ) arg1 fullShare d1 ∗ owns (c : Thread nD τ) arg2 fullShare d2
        ∗ some_ c arg3 ∗ some_ c arg4 ∗ some_ c arg5 ∗ some_ c arg6
        ∗ (iprop(owns (c : Thread nD τ) arg1 fullShare d1 ∗ owns (c : Thread nD τ) arg2 fullShare d2
              ∗ some_ c arg3 ∗ some_ c arg4 ∗ some_ c arg5 ∗ some_ c arg6) -∗ K ⟨⟩))
      ⊢ wp frame (wpE (defs₀ (F := F)) Variants.none c none) Set.univ
          (cc0__body i arg1 harg1 arg2 harg2 arg3 harg3 arg4 harg4 arg5 harg5 arg6 harg6) K := by
  simp only [cc0__body_eq_skeleton]; unfold cc0__body_skel
  unfold some_ owns
  iintro ⟨⟨%f1, %e1, H1⟩, ⟨%f2, %e2, H2⟩, ⟨%d3, %f3, -, H3⟩, ⟨%d4, %f4, -, H4⟩, ⟨%d5, %f5, -, H5⟩, ⟨%d6, %f6, -, H6⟩, Hk⟩
  by_cases h2 : Scalar.cmpi .ne (Scalar.extui (Scalar.cmpi .slt (BitVec.ofNat 32 (i 0).val) 32#32)) 0#32 = 1#1
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact H6
    ipureintro; rfl
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

/-- The kernel at an odd grid point: it runs to its return and keeps its two inputs. -/
theorem run_odd (c : Dev nD) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole)
    (h1 : ¬ k0_cond1 i = 1#1) (h3 : k0_cond3 i = 1#1)
    (d1 : S256x64.Idx → Elt F .f32) (d2 : S8192x64.Idx → Elt F .f32) (K : PUnit → sProp 𝕄) :
    iprop(owns (c : Thread nD τ) arg1 fullShare d1 ∗ owns (c : Thread nD τ) arg2 fullShare d2
        ∗ some_ c arg3 ∗ some_ c arg4 ∗ some_ c arg5 ∗ some_ c arg6
        ∗ (iprop(owns (c : Thread nD τ) arg1 fullShare d1 ∗ owns (c : Thread nD τ) arg2 fullShare d2
              ∗ some_ c arg3 ∗ some_ c arg4 ∗ some_ c arg5 ∗ some_ c arg6) -∗ K ⟨⟩))
      ⊢ wp frame (wpE (defs₀ (F := F)) Variants.none c none) Set.univ
          (cc0__body i arg1 harg1 arg2 harg2 arg3 harg3 arg4 harg4 arg5 harg5 arg6 harg6) K := by
  simp only [cc0__body_eq_skeleton]; unfold cc0__body_skel
  unfold some_ owns
  iintro ⟨⟨%f1, %e1, H1⟩, ⟨%f2, %e2, H2⟩, ⟨%d3, %f3, -, H3⟩, ⟨%d4, %f4, -, H4⟩, ⟨%d5, %f5, -, H5⟩, ⟨%d6, %f6, -, H6⟩, Hk⟩
  by_cases h2 : Scalar.cmpi .ne (Scalar.extui (Scalar.cmpi .slt (BitVec.ofNat 32 (i 0).val) 32#32)) 0#32 = 1#1
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact H6
    ipureintro; rfl
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

/-! ## The proof data -/

variable (m : (ℓ : Loc nD τ sig) → Buf (Elt F) ℓ) (ρ : Dev nD → PrngReg)

/-- The output is forgotten: nothing is said of what the kernel leaves in it. -/
def fgt : Fin 3 → Bool := ![false, false, true]

/-- The proof data on a core: the arrays as the region finds them, the two inputs kept at their blocks, the scratch at some
    contents between the points, nothing owed. -/
def dats (_ : Fin 1) (c : Dev nD) : Pipeline.Dat τ (Elt F) Unit ℕ (UR sig nD τ) ℕ cfg0 c where
  A w := V m c (Pipeline.arrRef spec0 w)
  after w t := match w with
    | ⟨0, h⟩ => iblk m c ⟨0, h⟩ t
    | ⟨1, h⟩ => iblk m c ⟨1, h⟩ t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between two points: each scratch buffer at some contents and the generator register at some state. -/
theorem Phi_eq (c : Dev nD) :
    (Pipeline.ΦA (U := UR sig nD τ) (Val := Elt F) spec0 c : sProp 𝕄)
      = iprop(iprop(some_ c (Memref.whole cc0_scratch0) ∗ some_ c (Memref.whole cc0_scratch1) ∗ some_ c (Memref.whole cc0_scratch2))
          ∗ (∃ r, prngReg c r)) := by
  unfold Pipeline.ΦA; rw [scopedRest0_eq]; simp only [some_, owns_whole]; try rfl

/-- The parity of a grid point decides the kernel's two conditions. -/
theorem cond1_iff : ∀ t : Fin grid0.N, k0_cond1 (grid0.coords t) = 1#1 ↔ t.val % 2 = 0 := by decide
theorem cond3_iff : ∀ t : Fin grid0.N, k0_cond3 (grid0.coords t) = 1#1 ↔ t.val % 2 = 1 := by decide

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ (∃ d, owns (c : Thread nD τ) (st0_2 t) fullShare d))

/-- The body at a point, from the pipeline's resources to the pipeline's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨HA, HB, HC⟩, Hg⟩, HO, ⟨%d0, H0⟩, ⟨%d1, H1⟩, H2⟩
  rw [before0_0_of m (dats m 0 c) (A_eq m c 0) (fun _ => rfl) t d0, before0_1_of m (dats m 0 c) (A_eq m c 1) (fun _ => rfl) t d1]
  rcases Nat.mod_two_eq_zero_or_one t.val with h | h
  · iapply (run_even c (grid0.coords t) _ _ _ _ _ _ _ _ _ _ _ _ ((cond1_iff t).2 h)
      (fun h' => by have := (cond3_iff t).1 h'; omega) (iblk m c 0 t) (iblk m c 1 t) _)
    isplitl [H0]; · iexact H0
    isplitl [H1]; · iexact H1
    isplitl [H2]; · iexact H2
    isplitl [HA]; · iexact HA
    isplitl [HB]; · iexact HB
    isplitl [HC]; · iexact HC
    iintro ⟨H0, H1, H2, HA, HB, HC⟩
    isplitl [HA HB HC Hg]
    · isplitl [HA HB HC]
      · isplitl [HA]; · iexact HA
        isplitl [HB]; · iexact HB
        iexact HC
      iexact Hg
    isplitl [HO]; · iexact HO
    isplitl [H0]; · iexact H0
    isplitl [H1]; · iexact H1
    iexact H2
  · iapply (run_odd c (grid0.coords t) _ _ _ _ _ _ _ _ _ _ _ _ (fun h' => by have := (cond1_iff t).1 h'; omega)
      ((cond3_iff t).2 h) (iblk m c 0 t) (iblk m c 1 t) _)
    isplitl [H0]; · iexact H0
    isplitl [H1]; · iexact H1
    isplitl [H2]; · iexact H2
    isplitl [HA]; · iexact HA
    isplitl [HB]; · iexact HB
    isplitl [HC]; · iexact HC
    iintro ⟨H0, H1, H2, HA, HB, HC⟩
    isplitl [HA HB HC Hg]
    · isplitl [HA HB HC]
      · isplitl [HA]; · iexact HA
        isplitl [HB]; · iexact HB
        iexact HC
      iexact Hg
    isplitl [HO]; · iexact HO
    isplitl [H0]; · iexact H0
    isplitl [H1]; · iexact H1
    iexact H2

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    Pipeline.BodyObligation (dats (F := F) m 0 c) (defs₀ (F := F)) Variants.none () Set.univ fgt := fun t => by
  rw [bigSep_W0, bigSep_W0, defs₀_row]
  exact triple_restated (sound_body m c t) rfl .rfl fun _ => .rfl

/-! ## The launch -/

/-- The buffers the host's last lines write. -/
def T : Finset (Ref sig .tc) := {main_call0_v3, main_v0}

theorem sfx_T : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, StableHlo.reshape_writes, Finset.mem_singleton] at hb
    by_contra hT
    refine StableHlo.devRef_ne_of_ne ?_ hb
    rintro rfl
    exact hT (by decide)

set_option backward.isDefEq.respectTransparency.types false in
/-- From any memory with zero counters every run of the program ends with both arguments as they were and every counter
    at zero. -/
theorem run_main :
    θ_run defs (onTc (τ := τ) (main (F := F))) (s₀ m ρ)
      (fun r => Pipeline.RDat.FramePostR (cfgs 0) (fun c => (dats m 0 c).toRForget fgt) T (V m) r ∧ r.2.sem = fun _ => 0) :=
  Pipeline.θ_run_frame_around_T_forget (Q' := _) cfgs (dats m) (0 : Fin 1) launch0 defs₀ Variants.none fgt T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The frame claim's post: both arguments end as they began and every counter ends at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).2 main_arg0 (by decide)).trans (V_main_arg0 m c),
    (Pipeline.RDat.FramePostR.arr_in h.1 c 1 rfl).trans ((A_eq m c 1).trans (V_main_arg1 m c))⟩, h.2⟩) (run_main m ρ)

end Cert.Kernel.Hand

end
-- ==== Proof.Net.lean ====
/-
  The compare-exchange network of the kernel, over any type with a "larger" and a "smaller" operation: eight values sorted
  downwards, two sorted octets merged into the eight largest, and the tree of seven merges that keeps eight of sixty-four.
-/
module

public import Mathlib.Data.Fin.VecNotation

@[expose] public section

namespace Net

/-- Eight values. -/
structure Oct (α : Type) where
  (x0 x1 x2 x3 x4 x5 x6 x7 : α)

/-- A function applied to each of the eight. -/
def Oct.map {α β : Type} (f : α → β) (v : Oct α) : Oct β :=
  ⟨f v.x0, f v.x1, f v.x2, f v.x3, f v.x4, f v.x5, f v.x6, f v.x7⟩

/-- The `i`-th of the eight. -/
def Oct.get {α : Type} (v : Oct α) : Fin 8 → α := ![v.x0, v.x1, v.x2, v.x3, v.x4, v.x5, v.x6, v.x7]

variable {α : Type} (hi lo : α → α → α)

/-- The first ten compare-exchanges of a sort of eight: two quadruples sorted downwards. -/
def sortA (v : Oct α) : Oct α :=
  let h0 := hi v.x0 v.x1
  let l0 := lo v.x0 v.x1
  let h1 := hi v.x2 v.x3
  let l1 := lo v.x2 v.x3
  let h2 := hi v.x4 v.x5
  let l2 := lo v.x4 v.x5
  let h3 := hi v.x6 v.x7
  let l3 := lo v.x6 v.x7
  let h4 := hi h0 h1
  let l4 := lo h0 h1
  let h5 := hi l0 l1
  let l5 := lo l0 l1
  let h6 := hi h2 h3
  let l6 := lo h2 h3
  let h7 := hi l2 l3
  let l7 := lo l2 l3
  let h8 := hi h5 l4
  let l8 := lo h5 l4
  let h9 := hi h7 l6
  let l9 := lo h7 l6
  ⟨h4, h8, l8, l5, h6, h9, l9, l7⟩

/-- The last nine: two sorted quadruples merged. -/
def sortB (v : Oct α) : Oct α :=
  let h0 := hi v.x0 v.x4
  let l0 := lo v.x0 v.x4
  let h1 := hi v.x1 v.x5
  let l1 := lo v.x1 v.x5
  let h2 := hi v.x2 v.x6
  let l2 := lo v.x2 v.x6
  let h3 := hi v.x3 v.x7
  let l3 := lo v.x3 v.x7
  let h4 := hi h2 l0
  let l4 := lo h2 l0
  let h5 := hi h3 l1
  let l5 := lo h3 l1
  let h6 := hi h1 h4
  let l6 := lo h1 h4
  let h7 := hi h5 l4
  let l7 := lo h5 l4
  let h8 := hi l5 l2
  let l8 := lo l5 l2
  ⟨h0, h6, l6, h7, l7, h8, l8, l3⟩

/-- Eight values sorted downwards by nineteen compare-exchanges. -/
def sort8 (v : Oct α) : Oct α := sortB hi lo (sortA hi lo v)

/-- The eight largest of two octets sorted downwards, in some order. -/
def top8 (x y : Oct α) : Oct α :=
  ⟨hi x.x0 y.x7, hi x.x1 y.x6, hi x.x2 y.x5, hi x.x3 y.x4, hi x.x4 y.x3, hi x.x5 y.x2, hi x.x6 y.x1, hi x.x7 y.x0⟩

/-- A bitonic octet sorted downwards by twelve compare-exchanges. -/
def bitonic (v : Oct α) : Oct α :=
  let h0 := hi v.x0 v.x4
  let l0 := lo v.x0 v.x4
  let h1 := hi v.x1 v.x5
  let l1 := lo v.x1 v.x5
  let h2 := hi v.x2 v.x6
  let l2 := lo v.x2 v.x6
  let h3 := hi v.x3 v.x7
  let l3 := lo v.x3 v.x7
  let h4 := hi h0 h2
  let l4 := lo h0 h2
  let h5 := hi h1 h3
  let l5 := lo h1 h3
  let h6 := hi l0 l2
  let l6 := lo l0 l2
  let h7 := hi l1 l3
  let l7 := lo l1 l3
  let h8 := hi h4 h5
  let l8 := lo h4 h5
  let h9 := hi l4 l5
  let l9 := lo l4 l5
  let h10 := hi h6 h7
  let l10 := lo h6 h7
  let h11 := hi l6 l7
  let l11 := lo l6 l7
  ⟨h8, l8, h9, l9, h10, l10, h11, l11⟩

/-- The eight largest of two octets sorted downwards, sorted downwards. -/
def merge8 (x y : Oct α) : Oct α := bitonic hi lo (top8 hi x y)

/-- Eight of sixty-four: eight octets sorted, then merged pairwise; the last merge leaves its result unsorted. -/
def net (v : Fin 8 → Oct α) : Oct α :=
  top8 hi
    (merge8 hi lo (merge8 hi lo (sort8 hi lo (v 0)) (sort8 hi lo (v 1))) (merge8 hi lo (sort8 hi lo (v 2)) (sort8 hi lo (v 3))))
    (merge8 hi lo (merge8 hi lo (sort8 hi lo (v 4)) (sort8 hi lo (v 5))) (merge8 hi lo (sort8 hi lo (v 6)) (sort8 hi lo (v 7))))

/-- The network commutes with any map that commutes with the two operations. -/
theorem net_map {β : Type} (hi' lo' : β → β → β) (f : α → β) (hhi : ∀ a b, f (hi a b) = hi' (f a) (f b))
    (hlo : ∀ a b, f (lo a b) = lo' (f a) (f b)) (v : Fin 8 → Oct α) :
    (net hi lo v).map f = net hi' lo' (fun g => (v g).map f) := by
  have hs : ∀ v : Oct α, (sort8 hi lo v).map f = sort8 hi' lo' (v.map f) := by
    intro v; simp only [sort8, sortA, sortB, Oct.map, hhi, hlo]
  have ht : ∀ x y : Oct α, (top8 hi x y).map f = top8 hi' (x.map f) (y.map f) := by
    intro x y; simp only [top8, Oct.map, hhi]
  have hb : ∀ v : Oct α, (bitonic hi lo v).map f = bitonic hi' lo' (v.map f) := by
    intro v; simp only [bitonic, Oct.map, hhi, hlo]
  have hm : ∀ x y : Oct α, (merge8 hi lo x y).map f = merge8 hi' lo' (x.map f) (y.map f) := by
    intro x y; rw [merge8, hb, ht]; rfl
  simp only [net, ht, hm, hs]

end Net
-- ==== Proof.Trip.lean ====
/-
  What one trip of the kernel's row loop stores: for sixteen rows of scores, the network's eight candidates of every lane,
  side by side. The values of the trip's run are put together stage by stage.
-/
module

public import proofs.«01_k».proof.Proof.Net
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Tactic.Stretches

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The lane columns `128 c … 128 c + 127` of sixteen rows of scores. -/
def sl (w : Vec F S16x8192 .f32) (c : Fin 64) : FVec F S16x128 .f32 :=
  extractStridedSlice S16x128 ![0, 128 * c.val] w (by revert c; decide)

/-- The sixty-four lane columns, eight at a time. -/
def octs (w : Vec F S16x8192 .f32) (g : Fin 8) : Net.Oct (FVec F S16x128 .f32) :=
  ⟨sl w ⟨8 * g.val, by omega⟩, sl w ⟨8 * g.val + 1, by omega⟩, sl w ⟨8 * g.val + 2, by omega⟩, sl w ⟨8 * g.val + 3, by omega⟩,
    sl w ⟨8 * g.val + 4, by omega⟩, sl w ⟨8 * g.val + 5, by omega⟩, sl w ⟨8 * g.val + 6, by omega⟩, sl w ⟨8 * g.val + 7, by omega⟩⟩

/-- The eight candidates of every lane, side by side. -/
def join (v : Net.Oct (FVec F S16x128 .f32)) : FVec F S16x1024 .f32 :=
  concatenate S16x1024 1 [⟨S16x128, v.x0⟩, ⟨S16x128, v.x1⟩, ⟨S16x128, v.x2⟩, ⟨S16x128, v.x3⟩, ⟨S16x128, v.x4⟩, ⟨S16x128, v.x5⟩, ⟨S16x128, v.x6⟩, ⟨S16x128, v.x7⟩]
    concatenates_S16x128_S16x128_S16x128_S16x128_S16x128_S16x128_S16x128_S16x128_S16x1024_d1

/-- What a trip stores for sixteen rows of scores. -/
def netPay (w : Vec F S16x8192 .f32) : FVec F S16x1024 .f32 :=
  shapeCast S16x1024 (join (Net.net maximumf minimumf (octs w))) shapeCasts_S16x1024_S16x1024

section t1

variable (i : grid0.Coords) (arg5 : Memref sig .tc .vmem S256x8192 .f32) (k0_h1 : k0_cond1 i = 1#1) (X : BufTy.Contents (Elt F) arg5.view.ty) (k : Fin k0_t1_loop.trips)

/-- The sixteen rows of scores that trip `k` reads. -/
abbrev rows_t1 : Vec F S16x8192 .f32 := (arg5.view.readAt (Elt F) (Rect.unit (s := S256x8192) (k0_off1 k) S16x8192.size (k0_off1_inb i k k0_h1)).toLoadRect X)

theorem t1_octs0 : octs (rows_t1 i arg5 k0_h1 X k) 0 = (⟨(trip_k0_t1.sl.v84 i arg5 k0_h1 X k), (trip_k0_t1.sl.v85 i arg5 k0_h1 X k), (trip_k0_t1.sl.v86 i arg5 k0_h1 X k), (trip_k0_t1.sl.v87 i arg5 k0_h1 X k), (trip_k0_t1.sl.v88 i arg5 k0_h1 X k), (trip_k0_t1.sl.v89 i arg5 k0_h1 X k), (trip_k0_t1.sl.v90 i arg5 k0_h1 X k), (trip_k0_t1.sl.v91 i arg5 k0_h1 X k)⟩ : Net.Oct (FVec F S16x128 .f32)) := (rfl)

theorem t1_stage1 : Net.sortA maximumf minimumf ⟨(trip_k0_t1.sl.v84 i arg5 k0_h1 X k), (trip_k0_t1.sl.v85 i arg5 k0_h1 X k), (trip_k0_t1.sl.v86 i arg5 k0_h1 X k), (trip_k0_t1.sl.v87 i arg5 k0_h1 X k), (trip_k0_t1.sl.v88 i arg5 k0_h1 X k), (trip_k0_t1.sl.v89 i arg5 k0_h1 X k), (trip_k0_t1.sl.v90 i arg5 k0_h1 X k), (trip_k0_t1.sl.v91 i arg5 k0_h1 X k)⟩ = (⟨(trip_k0_t1.sl.v100 i arg5 k0_h1 X k), (trip_k0_t1.sl.v108 i arg5 k0_h1 X k), (trip_k0_t1.sl.v109 i arg5 k0_h1 X k), (trip_k0_t1.sl.v103 i arg5 k0_h1 X k), (trip_k0_t1.sl.v104 i arg5 k0_h1 X k), (trip_k0_t1.sl.v110 i arg5 k0_h1 X k), (trip_k0_t1.sl.v111 i arg5 k0_h1 X k), (trip_k0_t1.sl.v107 i arg5 k0_h1 X k)⟩ : Net.Oct (FVec F S16x128 .f32)) := (rfl)

theorem t1_stage2 : Net.sortB maximumf minimumf ⟨(trip_k0_t1.sl.v100 i arg5 k0_h1 X k), (trip_k0_t1.sl.v108 i arg5 k0_h1 X k), (trip_k0_t1.sl.v109 i arg5 k0_h1 X k), (trip_k0_t1.sl.v103 i arg5 k0_h1 X k), (trip_k0_t1.sl.v104 i arg5 k0_h1 X k), (trip_k0_t1.sl.v110 i arg5 k0_h1 X k), (trip_k0_t1.sl.v111 i arg5 k0_h1 X k), (trip_k0_t1.sl.v107 i arg5 k0_h1 X k)⟩ = (⟨(trip_k0_t1.sl.v112 i arg5 k0_h1 X k), (trip_k0_t1.sl.v124 i arg5 k0_h1 X k), (trip_k0_t1.sl.v125 i arg5 k0_h1 X k), (trip_k0_t1.sl.v126 i arg5 k0_h1 X k), (trip_k0_t1.sl.v127 i arg5 k0_h1 X k), (trip_k0_t1.sl.v128 i arg5 k0_h1 X k), (trip_k0_t1.sl.v129 i arg5 k0_h1 X k), (trip_k0_t1.sl.v119 i arg5 k0_h1 X k)⟩ : Net.Oct (FVec F S16x128 .f32)) := (rfl)

theorem t1_octs1 : octs (rows_t1 i arg5 k0_h1 X k) 1 = (⟨(trip_k0_t1.sl.v130 i arg5 k0_h1 X k), (trip_k0_t1.sl.v131 i arg5 k0_h1 X k), (trip_k0_t1.sl.v132 i arg5 k0_h1 X k), (trip_k0_t1.sl.v133 i arg5 k0_h1 X k), (trip_k0_t1.sl.v134 i arg5 k0_h1 X k), (trip_k0_t1.sl.v135 i arg5 k0_h1 X k), (trip_k0_t1.sl.v136 i arg5 k0_h1 X k), (trip_k0_t1.sl.v137 i arg5 k0_h1 X k)⟩ : Net.Oct (FVec F S16x128 .f32)) := (rfl)

theorem t1_stage3 : Net.sortA maximumf minimumf ⟨(trip_k0_t1.sl.v130 i arg5 k0_h1 X k), (trip_k0_t1.sl.v131 i arg5 k0_h1 X k), (trip_k0_t1.sl.v132 i arg5 k0_h1 X k), (trip_k0_t1.sl.v133 i arg5 k0_h1 X k), (trip_k0_t1.sl.v134 i arg5 k0_h1 X k), (trip_k0_t1.sl.v135 i arg5 k0_h1 X k), (trip_k0_t1.sl.v136 i arg5 k0_h1 X k), (trip_k0_t1.sl.v137 i arg5 k0_h1 X k)⟩ = (⟨(trip_k0_t1.sl.v146 i arg5 k0_h1 X k), (trip_k0_t1.sl.v154 i arg5 k0_h1 X k), (trip_k0_t1.sl.v155 i arg5 k0_h1 X k), (trip_k0_t1.sl.v149 i arg5 k0_h1 X k), (trip_k0_t1.sl.v150 i arg5 k0_h1 X k), (trip_k0_t1.sl.v156 i arg5 k0_h1 X k), (trip_k0_t1.sl.v157 i arg5 k0_h1 X k), (trip_k0_t1.sl.v153 i arg5 k0_h1 X k)⟩ : Net.Oct (FVec F S16x128 .f32)) := (rfl)

theorem t1_stage4 : Net.sortB maximumf minimumf ⟨(trip_k0_t1.sl.v146 i arg5 k0_h1 X k), (trip_k0_t1.sl.v154 i arg5 k0_h1 X k), (trip_k0_t1.sl.v155 i arg5 k0_h1 X k), (trip_k0_t1.sl.v149 i arg5 k0_h1 X k), (trip_k0_t1.sl.v150 i arg5 k0_h1 X k), (trip_k0_t1.sl.v156 i arg5 k0_h1 X k), (trip_k0_t1.sl.v157 i arg5 k0_h1 X k), (trip_k0_t1.sl.v153 i arg5 k0_h1 X k)⟩ = (⟨(trip_k0_t1.sl.v158 i arg5 k0_h1 X k), (trip_k0_t1.sl.v170 i arg5 k0_h1 X k), (trip_k0_t1.sl.v171 i arg5 k0_h1 X k), (trip_k0_t1.sl.v172 i arg5 k0_h1 X k), (trip_k0_t1.sl.v173 i arg5 k0_h1 X k), (trip_k0_t1.sl.v174 i arg5 k0_h1 X k), (trip_k0_t1.sl.v175 i arg5 k0_h1 X k), (trip_k0_t1.sl.v165 i arg5 k0_h1 X k)⟩ : Net.Oct (FVec F S16x128 .f32)) := (rfl)

theorem t1_stage5 : Net.merge8 maximumf minimumf ⟨(trip_k0_t1.sl.v112 i arg5 k0_h1 X k), (trip_k0_t1.sl.v124 i arg5 k0_h1 X k), (trip_k0_t1.sl.v125 i arg5 k0_h1 X k), (trip_k0_t1.sl.v126 i arg5 k0_h1 X k), (trip_k0_t1.sl.v127 i arg5 k0_h1 X k), (trip_k0_t1.sl.v128 i arg5 k0_h1 X k), (trip_k0_t1.sl.v129 i arg5 k0_h1 X k), (trip_k0_t1.sl.v119 i arg5 k0_h1 X k)⟩ ⟨(trip_k0_t1.sl.v158 i arg5 k0_h1 X k), (trip_k0_t1.sl.v170 i arg5 k0_h1 X k), (trip_k0_t1.sl.v171 i arg5 k0_h1 X k), (trip_k0_t1.sl.v172 i arg5 k0_h1 X k), (trip_k0_t1.sl.v173 i arg5 k0_h1 X k), (trip_k0_t1.sl.v174 i arg5 k0_h1 X k), (trip_k0_t1.sl.v175 i arg5 k0_h1 X k), (trip_k0_t1.sl.v165 i arg5 k0_h1 X k)⟩ = (⟨(trip_k0_t1.sl.v200 i arg5 k0_h1 X k), (trip_k0_t1.sl.v201 i arg5 k0_h1 X k), (trip_k0_t1.sl.v202 i arg5 k0_h1 X k), (trip_k0_t1.sl.v203 i arg5 k0_h1 X k), (trip_k0_t1.sl.v204 i arg5 k0_h1 X k), (trip_k0_t1.sl.v205 i arg5 k0_h1 X k), (trip_k0_t1.sl.v206 i arg5 k0_h1 X k), (trip_k0_t1.sl.v207 i arg5 k0_h1 X k)⟩ : Net.Oct (FVec F S16x128 .f32)) := (rfl)

theorem t1_octs2 : octs (rows_t1 i arg5 k0_h1 X k) 2 = (⟨(trip_k0_t1.sl.v208 i arg5 k0_h1 X k), (trip_k0_t1.sl.v209 i arg5 k0_h1 X k), (trip_k0_t1.sl.v210 i arg5 k0_h1 X k), (trip_k0_t1.sl.v211 i arg5 k0_h1 X k), (trip_k0_t1.sl.v212 i arg5 k0_h1 X k), (trip_k0_t1.sl.v213 i arg5 k0_h1 X k), (trip_k0_t1.sl.v214 i arg5 k0_h1 X k), (trip_k0_t1.sl.v215 i arg5 k0_h1 X k)⟩ : Net.Oct (FVec F S16x128 .f32)) := (rfl)

theorem t1_stage6 : Net.sortA maximumf minimumf ⟨(trip_k0_t1.sl.v208 i arg5 k0_h1 X k), (trip_k0_t1.sl.v209 i arg5 k0_h1 X k), (trip_k0_t1.sl.v210 i arg5 k0_h1 X k), (trip_k0_t1.sl.v211 i arg5 k0_h1 X k), (trip_k0_t1.sl.v212 i arg5 k0_h1 X k), (trip_k0_t1.sl.v213 i arg5 k0_h1 X k), (trip_k0_t1.sl.v214 i arg5 k0_h1 X k), (trip_k0_t1.sl.v215 i arg5 k0_h1 X k)⟩ = (⟨(trip_k0_t1.sl.v224 i arg5 k0_h1 X k), (trip_k0_t1.sl.v232 i arg5 k0_h1 X k), (trip_k0_t1.sl.v233 i arg5 k0_h1 X k), (trip_k0_t1.sl.v227 i arg5 k0_h1 X k), (trip_k0_t1.sl.v228 i arg5 k0_h1 X k), (trip_k0_t1.sl.v234 i arg5 k0_h1 X k), (trip_k0_t1.sl.v235 i arg5 k0_h1 X k), (trip_k0_t1.sl.v231 i arg5 k0_h1 X k)⟩ : Net.Oct (FVec F S16x128 .f32)) := (rfl)

theorem t1_stage7 : Net.sortB maximumf minimumf ⟨(trip_k0_t1.sl.v224 i arg5 k0_h1 X k), (trip_k0_t1.sl.v232 i arg5 k0_h1 X k), (trip_k0_t1.sl.v233 i arg5 k0_h1 X k), (trip_k0_t1.sl.v227 i arg5 k0_h1 X k), (trip_k0_t1.sl.v228 i arg5 k0_h1 X k), (trip_k0_t1.sl.v234 i arg5 k0_h1 X k), (trip_k0_t1.sl.v235 i arg5 k0_h1 X k), (trip_k0_t1.sl.v231 i arg5 k0_h1 X k)⟩ = (⟨(trip_k0_t1.sl.v236 i arg5 k0_h1 X k), (trip_k0_t1.sl.v248 i arg5 k0_h1 X k), (trip_k0_t1.sl.v249 i arg5 k0_h1 X k), (trip_k0_t1.sl.v250 i arg5 k0_h1 X k), (trip_k0_t1.sl.v251 i arg5 k0_h1 X k), (trip_k0_t1.sl.v252 i arg5 k0_h1 X k), (trip_k0_t1.sl.v253 i arg5 k0_h1 X k), (trip_k0_t1.sl.v243 i arg5 k0_h1 X k)⟩ : Net.Oct (FVec F S16x128 .f32)) := (rfl)

theorem t1_octs3 : octs (rows_t1 i arg5 k0_h1 X k) 3 = (⟨(trip_k0_t1.sl.v254 i arg5 k0_h1 X k), (trip_k0_t1.sl.v255 i arg5 k0_h1 X k), (trip_k0_t1.sl.v256 i arg5 k0_h1 X k), (trip_k0_t1.sl.v257 i arg5 k0_h1 X k), (trip_k0_t1.sl.v258 i arg5 k0_h1 X k), (trip_k0_t1.sl.v259 i arg5 k0_h1 X k), (trip_k0_t1.sl.v260 i arg5 k0_h1 X k), (trip_k0_t1.sl.v261 i arg5 k0_h1 X k)⟩ : Net.Oct (FVec F S16x128 .f32)) := (rfl)

theorem t1_stage8 : Net.sortA maximumf minimumf ⟨(trip_k0_t1.sl.v254 i arg5 k0_h1 X k), (trip_k0_t1.sl.v255 i arg5 k0_h1 X k), (trip_k0_t1.sl.v256 i arg5 k0_h1 X k), (trip_k0_t1.sl.v257 i arg5 k0_h1 X k), (trip_k0_t1.sl.v258 i arg5 k0_h1 X k), (trip_k0_t1.sl.v259 i arg5 k0_h1 X k), (trip_k0_t1.sl.v260 i arg5 k0_h1 X k), (trip_k0_t1.sl.v261 i arg5 k0_h1 X k)⟩ = (⟨(trip_k0_t1.sl.v270 i arg5 k0_h1 X k), (trip_k0_t1.sl.v278 i arg5 k0_h1 X k), (trip_k0_t1.sl.v279 i arg5 k0_h1 X k), (trip_k0_t1.sl.v273 i arg5 k0_h1 X k), (trip_k0_t1.sl.v274 i arg5 k0_h1 X k), (trip_k0_t1.sl.v280 i arg5 k0_h1 X k), (trip_k0_t1.sl.v281 i arg5 k0_h1 X k), (trip_k0_t1.sl.v277 i arg5 k0_h1 X k)⟩ : Net.Oct (FVec F S16x128 .f32)) := (rfl)

theorem t1_stage9 : Net.sortB maximumf minimumf ⟨(trip_k0_t1.sl.v270 i arg5 k0_h1 X k), (trip_k0_t1.sl.v278 i arg5 k0_h1 X k), (trip_k0_t1.sl.v279 i arg5 k0_h1 X k), (trip_k0_t1.sl.v273 i arg5 k0_h1 X k), (trip_k0_t1.sl.v274 i arg5 k0_h1 X k), (trip_k0_t1.sl.v280 i arg5 k0_h1 X k), (trip_k0_t1.sl.v281 i arg5 k0_h1 X k), (trip_k0_t1.sl.v277 i arg5 k0_h1 X k)⟩ = (⟨(trip_k0_t1.sl.v282 i arg5 k0_h1 X k), (trip_k0_t1.sl.v294 i arg5 k0_h1 X k), (trip_k0_t1.sl.v295 i arg5 k0_h1 X k), (trip_k0_t1.sl.v296 i arg5 k0_h1 X k), (trip_k0_t1.sl.v297 i arg5 k0_h1 X k), (trip_k0_t1.sl.v298 i arg5 k0_h1 X k), (trip_k0_t1.sl.v299 i arg5 k0_h1 X k), (trip_k0_t1.sl.v289 i arg5 k0_h1 X k)⟩ : Net.Oct (FVec F S16x128 .f32)) := (rfl)

theorem t1_stage10 : Net.merge8 maximumf minimumf ⟨(trip_k0_t1.sl.v236 i arg5 k0_h1 X k), (trip_k0_t1.sl.v248 i arg5 k0_h1 X k), (trip_k0_t1.sl.v249 i arg5 k0_h1 X k), (trip_k0_t1.sl.v250 i arg5 k0_h1 X k), (trip_k0_t1.sl.v251 i arg5 k0_h1 X k), (trip_k0_t1.sl.v252 i arg5 k0_h1 X k), (trip_k0_t1.sl.v253 i arg5 k0_h1 X k), (trip_k0_t1.sl.v243 i arg5 k0_h1 X k)⟩ ⟨(trip_k0_t1.sl.v282 i arg5 k0_h1 X k), (trip_k0_t1.sl.v294 i arg5 k0_h1 X k), (trip_k0_t1.sl.v295 i arg5 k0_h1 X k), (trip_k0_t1.sl.v296 i arg5 k0_h1 X k), (trip_k0_t1.sl.v297 i arg5 k0_h1 X k), (trip_k0_t1.sl.v298 i arg5 k0_h1 X k), (trip_k0_t1.sl.v299 i arg5 k0_h1 X k), (trip_k0_t1.sl.v289 i arg5 k0_h1 X k)⟩ = (⟨(trip_k0_t1.sl.v324 i arg5 k0_h1 X k), (trip_k0_t1.sl.v325 i arg5 k0_h1 X k), (trip_k0_t1.sl.v326 i arg5 k0_h1 X k), (trip_k0_t1.sl.v327 i arg5 k0_h1 X k), (trip_k0_t1.sl.v328 i arg5 k0_h1 X k), (trip_k0_t1.sl.v329 i arg5 k0_h1 X k), (trip_k0_t1.sl.v330 i arg5 k0_h1 X k), (trip_k0_t1.sl.v331 i arg5 k0_h1 X k)⟩ : Net.Oct (FVec F S16x128 .f32)) := (rfl)

theorem t1_stage11 : Net.merge8 maximumf minimumf ⟨(trip_k0_t1.sl.v200 i arg5 k0_h1 X k), (trip_k0_t1.sl.v201 i arg5 k0_h1 X k), (trip_k0_t1.sl.v202 i arg5 k0_h1 X k), (trip_k0_t1.sl.v203 i arg5 k0_h1 X k), (trip_k0_t1.sl.v204 i arg5 k0_h1 X k), (trip_k0_t1.sl.v205 i arg5 k0_h1 X k), (trip_k0_t1.sl.v206 i arg5 k0_h1 X k), (trip_k0_t1.sl.v207 i arg5 k0_h1 X k)⟩ ⟨(trip_k0_t1.sl.v324 i arg5 k0_h1 X k), (trip_k0_t1.sl.v325 i arg5 k0_h1 X k), (trip_k0_t1.sl.v326 i arg5 k0_h1 X k), (trip_k0_t1.sl.v327 i arg5 k0_h1 X k), (trip_k0_t1.sl.v328 i arg5 k0_h1 X k), (trip_k0_t1.sl.v329 i arg5 k0_h1 X k), (trip_k0_t1.sl.v330 i arg5 k0_h1 X k), (trip_k0_t1.sl.v331 i arg5 k0_h1 X k)⟩ = (⟨(trip_k0_t1.sl.v356 i arg5 k0_h1 X k), (trip_k0_t1.sl.v357 i arg5 k0_h1 X k), (trip_k0_t1.sl.v358 i arg5 k0_h1 X k), (trip_k0_t1.sl.v359 i arg5 k0_h1 X k), (trip_k0_t1.sl.v360 i arg5 k0_h1 X k), (trip_k0_t1.sl.v361 i arg5 k0_h1 X k), (trip_k0_t1.sl.v362 i arg5 k0_h1 X k), (trip_k0_t1.sl.v363 i arg5 k0_h1 X k)⟩ : Net.Oct (FVec F S16x128 .f32)) := (rfl)

theorem t1_octs4 : octs (rows_t1 i arg5 k0_h1 X k) 4 = (⟨(trip_k0_t1.sl.v364 i arg5 k0_h1 X k), (trip_k0_t1.sl.v365 i arg5 k0_h1 X k), (trip_k0_t1.sl.v366 i arg5 k0_h1 X k), (trip_k0_t1.sl.v367 i arg5 k0_h1 X k), (trip_k0_t1.sl.v368 i arg5 k0_h1 X k), (trip_k0_t1.sl.v369 i arg5 k0_h1 X k), (trip_k0_t1.sl.v370 i arg5 k0_h1 X k), (trip_k0_t1.sl.v371 i arg5 k0_h1 X k)⟩ : Net.Oct (FVec F S16x128 .f32)) := (rfl)

theorem t1_stage12 : Net.sortA maximumf minimumf ⟨(trip_k0_t1.sl.v364 i arg5 k0_h1 X k), (trip_k0_t1.sl.v365 i arg5 k0_h1 X k), (trip_k0_t1.sl.v366 i arg5 k0_h1 X k), (trip_k0_t1.sl.v367 i arg5 k0_h1 X k), (trip_k0_t1.sl.v368 i arg5 k0_h1 X k), (trip_k0_t1.sl.v369 i arg5 k0_h1 X k), (trip_k0_t1.sl.v370 i arg5 k0_h1 X k), (trip_k0_t1.sl.v371 i arg5 k0_h1 X k)⟩ = (⟨(trip_k0_t1.sl.v380 i arg5 k0_h1 X k), (trip_k0_t1.sl.v388 i arg5 k0_h1 X k), (trip_k0_t1.sl.v389 i arg5 k0_h1 X k), (trip_k0_t1.sl.v383 i arg5 k0_h1 X k), (trip_k0_t1.sl.v384 i arg5 k0_h1 X k), (trip_k0_t1.sl.v390 i arg5 k0_h1 X k), (trip_k0_t1.sl.v391 i arg5 k0_h1 X k), (trip_k0_t1.sl.v387 i arg5 k0_h1 X k)⟩ : Net.Oct (FVec F S16x128 .f32)) := (rfl)

theorem t1_stage13 : Net.sortB maximumf minimumf ⟨(trip_k0_t1.sl.v380 i arg5 k0_h1 X k), (trip_k0_t1.sl.v388 i arg5 k0_h1 X k), (trip_k0_t1.sl.v389 i arg5 k0_h1 X k), (trip_k0_t1.sl.v383 i arg5 k0_h1 X k), (trip_k0_t1.sl.v384 i arg5 k0_h1 X k), (trip_k0_t1.sl.v390 i arg5 k0_h1 X k), (trip_k0_t1.sl.v391 i arg5 k0_h1 X k), (trip_k0_t1.sl.v387 i arg5 k0_h1 X k)⟩ = (⟨(trip_k0_t1.sl.v392 i arg5 k0_h1 X k), (trip_k0_t1.sl.v404 i arg5 k0_h1 X k), (trip_k0_t1.sl.v405 i arg5 k0_h1 X k), (trip_k0_t1.sl.v406 i arg5 k0_h1 X k), (trip_k0_t1.sl.v407 i arg5 k0_h1 X k), (trip_k0_t1.sl.v408 i arg5 k0_h1 X k), (trip_k0_t1.sl.v409 i arg5 k0_h1 X k), (trip_k0_t1.sl.v399 i arg5 k0_h1 X k)⟩ : Net.Oct (FVec F S16x128 .f32)) := (rfl)

theorem t1_octs5 : octs (rows_t1 i arg5 k0_h1 X k) 5 = (⟨(trip_k0_t1.sl.v410 i arg5 k0_h1 X k), (trip_k0_t1.sl.v411 i arg5 k0_h1 X k), (trip_k0_t1.sl.v412 i arg5 k0_h1 X k), (trip_k0_t1.sl.v413 i arg5 k0_h1 X k), (trip_k0_t1.sl.v414 i arg5 k0_h1 X k), (trip_k0_t1.sl.v415 i arg5 k0_h1 X k), (trip_k0_t1.sl.v416 i arg5 k0_h1 X k), (trip_k0_t1.sl.v417 i arg5 k0_h1 X k)⟩ : Net.Oct (FVec F S16x128 .f32)) := (rfl)

theorem t1_stage14 : Net.sortA maximumf minimumf ⟨(trip_k0_t1.sl.v410 i arg5 k0_h1 X k), (trip_k0_t1.sl.v411 i arg5 k0_h1 X k), (trip_k0_t1.sl.v412 i arg5 k0_h1 X k), (trip_k0_t1.sl.v413 i arg5 k0_h1 X k), (trip_k0_t1.sl.v414 i arg5 k0_h1 X k), (trip_k0_t1.sl.v415 i arg5 k0_h1 X k), (trip_k0_t1.sl.v416 i arg5 k0_h1 X k), (trip_k0_t1.sl.v417 i arg5 k0_h1 X k)⟩ = (⟨(trip_k0_t1.sl.v426 i arg5 k0_h1 X k), (trip_k0_t1.sl.v434 i arg5 k0_h1 X k), (trip_k0_t1.sl.v435 i arg5 k0_h1 X k), (trip_k0_t1.sl.v429 i arg5 k0_h1 X k), (trip_k0_t1.sl.v430 i arg5 k0_h1 X k), (trip_k0_t1.sl.v436 i arg5 k0_h1 X k), (trip_k0_t1.sl.v437 i arg5 k0_h1 X k), (trip_k0_t1.sl.v433 i arg5 k0_h1 X k)⟩ : Net.Oct (FVec F S16x128 .f32)) := (rfl)

theorem t1_stage15 : Net.sortB maximumf minimumf ⟨(trip_k0_t1.sl.v426 i arg5 k0_h1 X k), (trip_k0_t1.sl.v434 i arg5 k0_h1 X k), (trip_k0_t1.sl.v435 i arg5 k0_h1 X k), (trip_k0_t1.sl.v429 i arg5 k0_h1 X k), (trip_k0_t1.sl.v430 i arg5 k0_h1 X k), (trip_k0_t1.sl.v436 i arg5 k0_h1 X k), (trip_k0_t1.sl.v437 i arg5 k0_h1 X k), (trip_k0_t1.sl.v433 i arg5 k0_h1 X k)⟩ = (⟨(trip_k0_t1.sl.v438 i arg5 k0_h1 X k), (trip_k0_t1.sl.v450 i arg5 k0_h1 X k), (trip_k0_t1.sl.v451 i arg5 k0_h1 X k), (trip_k0_t1.sl.v452 i arg5 k0_h1 X k), (trip_k0_t1.sl.v453 i arg5 k0_h1 X k), (trip_k0_t1.sl.v454 i arg5 k0_h1 X k), (trip_k0_t1.sl.v455 i arg5 k0_h1 X k), (trip_k0_t1.sl.v445 i arg5 k0_h1 X k)⟩ : Net.Oct (FVec F S16x128 .f32)) := (rfl)

theorem t1_stage16 : Net.merge8 maximumf minimumf ⟨(trip_k0_t1.sl.v392 i arg5 k0_h1 X k), (trip_k0_t1.sl.v404 i arg5 k0_h1 X k), (trip_k0_t1.sl.v405 i arg5 k0_h1 X k), (trip_k0_t1.sl.v406 i arg5 k0_h1 X k), (trip_k0_t1.sl.v407 i arg5 k0_h1 X k), (trip_k0_t1.sl.v408 i arg5 k0_h1 X k), (trip_k0_t1.sl.v409 i arg5 k0_h1 X k), (trip_k0_t1.sl.v399 i arg5 k0_h1 X k)⟩ ⟨(trip_k0_t1.sl.v438 i arg5 k0_h1 X k), (trip_k0_t1.sl.v450 i arg5 k0_h1 X k), (trip_k0_t1.sl.v451 i arg5 k0_h1 X k), (trip_k0_t1.sl.v452 i arg5 k0_h1 X k), (trip_k0_t1.sl.v453 i arg5 k0_h1 X k), (trip_k0_t1.sl.v454 i arg5 k0_h1 X k), (trip_k0_t1.sl.v455 i arg5 k0_h1 X k), (trip_k0_t1.sl.v445 i arg5 k0_h1 X k)⟩ = (⟨(trip_k0_t1.sl.v480 i arg5 k0_h1 X k), (trip_k0_t1.sl.v481 i arg5 k0_h1 X k), (trip_k0_t1.sl.v482 i arg5 k0_h1 X k), (trip_k0_t1.sl.v483 i arg5 k0_h1 X k), (trip_k0_t1.sl.v484 i arg5 k0_h1 X k), (trip_k0_t1.sl.v485 i arg5 k0_h1 X k), (trip_k0_t1.sl.v486 i arg5 k0_h1 X k), (trip_k0_t1.sl.v487 i arg5 k0_h1 X k)⟩ : Net.Oct (FVec F S16x128 .f32)) := (rfl)

theorem t1_octs6 : octs (rows_t1 i arg5 k0_h1 X k) 6 = (⟨(trip_k0_t1.sl.v488 i arg5 k0_h1 X k), (trip_k0_t1.sl.v489 i arg5 k0_h1 X k), (trip_k0_t1.sl.v490 i arg5 k0_h1 X k), (trip_k0_t1.sl.v491 i arg5 k0_h1 X k), (trip_k0_t1.sl.v492 i arg5 k0_h1 X k), (trip_k0_t1.sl.v493 i arg5 k0_h1 X k), (trip_k0_t1.sl.v494 i arg5 k0_h1 X k), (trip_k0_t1.sl.v495 i arg5 k0_h1 X k)⟩ : Net.Oct (FVec F S16x128 .f32)) := (rfl)

theorem t1_stage17 : Net.sortA maximumf minimumf ⟨(trip_k0_t1.sl.v488 i arg5 k0_h1 X k), (trip_k0_t1.sl.v489 i arg5 k0_h1 X k), (trip_k0_t1.sl.v490 i arg5 k0_h1 X k), (trip_k0_t1.sl.v491 i arg5 k0_h1 X k), (trip_k0_t1.sl.v492 i arg5 k0_h1 X k), (trip_k0_t1.sl.v493 i arg5 k0_h1 X k), (trip_k0_t1.sl.v494 i arg5 k0_h1 X k), (trip_k0_t1.sl.v495 i arg5 k0_h1 X k)⟩ = (⟨(trip_k0_t1.sl.v504 i arg5 k0_h1 X k), (trip_k0_t1.sl.v512 i arg5 k0_h1 X k), (trip_k0_t1.sl.v513 i arg5 k0_h1 X k), (trip_k0_t1.sl.v507 i arg5 k0_h1 X k), (trip_k0_t1.sl.v508 i arg5 k0_h1 X k), (trip_k0_t1.sl.v514 i arg5 k0_h1 X k), (trip_k0_t1.sl.v515 i arg5 k0_h1 X k), (trip_k0_t1.sl.v511 i arg5 k0_h1 X k)⟩ : Net.Oct (FVec F S16x128 .f32)) := (rfl)

theorem t1_stage18 : Net.sortB maximumf minimumf ⟨(trip_k0_t1.sl.v504 i arg5 k0_h1 X k), (trip_k0_t1.sl.v512 i arg5 k0_h1 X k), (trip_k0_t1.sl.v513 i arg5 k0_h1 X k), (trip_k0_t1.sl.v507 i arg5 k0_h1 X k), (trip_k0_t1.sl.v508 i arg5 k0_h1 X k), (trip_k0_t1.sl.v514 i arg5 k0_h1 X k), (trip_k0_t1.sl.v515 i arg5 k0_h1 X k), (trip_k0_t1.sl.v511 i arg5 k0_h1 X k)⟩ = (⟨(trip_k0_t1.sl.v516 i arg5 k0_h1 X k), (trip_k0_t1.sl.v528 i arg5 k0_h1 X k), (trip_k0_t1.sl.v529 i arg5 k0_h1 X k), (trip_k0_t1.sl.v530 i arg5 k0_h1 X k), (trip_k0_t1.sl.v531 i arg5 k0_h1 X k), (trip_k0_t1.sl.v532 i arg5 k0_h1 X k), (trip_k0_t1.sl.v533 i arg5 k0_h1 X k), (trip_k0_t1.sl.v523 i arg5 k0_h1 X k)⟩ : Net.Oct (FVec F S16x128 .f32)) := (rfl)

theorem t1_octs7 : octs (rows_t1 i arg5 k0_h1 X k) 7 = (⟨(trip_k0_t1.sl.v534 i arg5 k0_h1 X k), (trip_k0_t1.sl.v535 i arg5 k0_h1 X k), (trip_k0_t1.sl.v536 i arg5 k0_h1 X k), (trip_k0_t1.sl.v537 i arg5 k0_h1 X k), (trip_k0_t1.sl.v538 i arg5 k0_h1 X k), (trip_k0_t1.sl.v539 i arg5 k0_h1 X k), (trip_k0_t1.sl.v540 i arg5 k0_h1 X k), (trip_k0_t1.sl.v541 i arg5 k0_h1 X k)⟩ : Net.Oct (FVec F S16x128 .f32)) := (rfl)

theorem t1_stage19 : Net.sortA maximumf minimumf ⟨(trip_k0_t1.sl.v534 i arg5 k0_h1 X k), (trip_k0_t1.sl.v535 i arg5 k0_h1 X k), (trip_k0_t1.sl.v536 i arg5 k0_h1 X k), (trip_k0_t1.sl.v537 i arg5 k0_h1 X k), (trip_k0_t1.sl.v538 i arg5 k0_h1 X k), (trip_k0_t1.sl.v539 i arg5 k0_h1 X k), (trip_k0_t1.sl.v540 i arg5 k0_h1 X k), (trip_k0_t1.sl.v541 i arg5 k0_h1 X k)⟩ = (⟨(trip_k0_t1.sl.v550 i arg5 k0_h1 X k), (trip_k0_t1.sl.v558 i arg5 k0_h1 X k), (trip_k0_t1.sl.v559 i arg5 k0_h1 X k), (trip_k0_t1.sl.v553 i arg5 k0_h1 X k), (trip_k0_t1.sl.v554 i arg5 k0_h1 X k), (trip_k0_t1.sl.v560 i arg5 k0_h1 X k), (trip_k0_t1.sl.v561 i arg5 k0_h1 X k), (trip_k0_t1.sl.v557 i arg5 k0_h1 X k)⟩ : Net.Oct (FVec F S16x128 .f32)) := (rfl)

theorem t1_stage20 : Net.sortB maximumf minimumf ⟨(trip_k0_t1.sl.v550 i arg5 k0_h1 X k), (trip_k0_t1.sl.v558 i arg5 k0_h1 X k), (trip_k0_t1.sl.v559 i arg5 k0_h1 X k), (trip_k0_t1.sl.v553 i arg5 k0_h1 X k), (trip_k0_t1.sl.v554 i arg5 k0_h1 X k), (trip_k0_t1.sl.v560 i arg5 k0_h1 X k), (trip_k0_t1.sl.v561 i arg5 k0_h1 X k), (trip_k0_t1.sl.v557 i arg5 k0_h1 X k)⟩ = (⟨(trip_k0_t1.sl.v562 i arg5 k0_h1 X k), (trip_k0_t1.sl.v574 i arg5 k0_h1 X k), (trip_k0_t1.sl.v575 i arg5 k0_h1 X k), (trip_k0_t1.sl.v576 i arg5 k0_h1 X k), (trip_k0_t1.sl.v577 i arg5 k0_h1 X k), (trip_k0_t1.sl.v578 i arg5 k0_h1 X k), (trip_k0_t1.sl.v579 i arg5 k0_h1 X k), (trip_k0_t1.sl.v569 i arg5 k0_h1 X k)⟩ : Net.Oct (FVec F S16x128 .f32)) := (rfl)

theorem t1_stage21 : Net.merge8 maximumf minimumf ⟨(trip_k0_t1.sl.v516 i arg5 k0_h1 X k), (trip_k0_t1.sl.v528 i arg5 k0_h1 X k), (trip_k0_t1.sl.v529 i arg5 k0_h1 X k), (trip_k0_t1.sl.v530 i arg5 k0_h1 X k), (trip_k0_t1.sl.v531 i arg5 k0_h1 X k), (trip_k0_t1.sl.v532 i arg5 k0_h1 X k), (trip_k0_t1.sl.v533 i arg5 k0_h1 X k), (trip_k0_t1.sl.v523 i arg5 k0_h1 X k)⟩ ⟨(trip_k0_t1.sl.v562 i arg5 k0_h1 X k), (trip_k0_t1.sl.v574 i arg5 k0_h1 X k), (trip_k0_t1.sl.v575 i arg5 k0_h1 X k), (trip_k0_t1.sl.v576 i arg5 k0_h1 X k), (trip_k0_t1.sl.v577 i arg5 k0_h1 X k), (trip_k0_t1.sl.v578 i arg5 k0_h1 X k), (trip_k0_t1.sl.v579 i arg5 k0_h1 X k), (trip_k0_t1.sl.v569 i arg5 k0_h1 X k)⟩ = (⟨(trip_k0_t1.sl.v604 i arg5 k0_h1 X k), (trip_k0_t1.sl.v605 i arg5 k0_h1 X k), (trip_k0_t1.sl.v606 i arg5 k0_h1 X k), (trip_k0_t1.sl.v607 i arg5 k0_h1 X k), (trip_k0_t1.sl.v608 i arg5 k0_h1 X k), (trip_k0_t1.sl.v609 i arg5 k0_h1 X k), (trip_k0_t1.sl.v610 i arg5 k0_h1 X k), (trip_k0_t1.sl.v611 i arg5 k0_h1 X k)⟩ : Net.Oct (FVec F S16x128 .f32)) := (rfl)

theorem t1_stage22 : Net.merge8 maximumf minimumf ⟨(trip_k0_t1.sl.v480 i arg5 k0_h1 X k), (trip_k0_t1.sl.v481 i arg5 k0_h1 X k), (trip_k0_t1.sl.v482 i arg5 k0_h1 X k), (trip_k0_t1.sl.v483 i arg5 k0_h1 X k), (trip_k0_t1.sl.v484 i arg5 k0_h1 X k), (trip_k0_t1.sl.v485 i arg5 k0_h1 X k), (trip_k0_t1.sl.v486 i arg5 k0_h1 X k), (trip_k0_t1.sl.v487 i arg5 k0_h1 X k)⟩ ⟨(trip_k0_t1.sl.v604 i arg5 k0_h1 X k), (trip_k0_t1.sl.v605 i arg5 k0_h1 X k), (trip_k0_t1.sl.v606 i arg5 k0_h1 X k), (trip_k0_t1.sl.v607 i arg5 k0_h1 X k), (trip_k0_t1.sl.v608 i arg5 k0_h1 X k), (trip_k0_t1.sl.v609 i arg5 k0_h1 X k), (trip_k0_t1.sl.v610 i arg5 k0_h1 X k), (trip_k0_t1.sl.v611 i arg5 k0_h1 X k)⟩ = (⟨(trip_k0_t1.sl.v636 i arg5 k0_h1 X k), (minimumf (trip_k0_t1.sl.v628 i arg5 k0_h1 X k) (trip_k0_t1.sl.v630 i arg5 k0_h1 X k)), (maximumf (trip_k0_t1.sl.v629 i arg5 k0_h1 X k) (trip_k0_t1.sl.v631 i arg5 k0_h1 X k)), (minimumf (trip_k0_t1.sl.v629 i arg5 k0_h1 X k) (trip_k0_t1.sl.v631 i arg5 k0_h1 X k)), (maximumf (trip_k0_t1.sl.v632 i arg5 k0_h1 X k) (trip_k0_t1.sl.v634 i arg5 k0_h1 X k)), (minimumf (trip_k0_t1.sl.v632 i arg5 k0_h1 X k) (trip_k0_t1.sl.v634 i arg5 k0_h1 X k)), (maximumf (trip_k0_t1.sl.v633 i arg5 k0_h1 X k) (trip_k0_t1.sl.v635 i arg5 k0_h1 X k)), (minimumf (trip_k0_t1.sl.v633 i arg5 k0_h1 X k) (trip_k0_t1.sl.v635 i arg5 k0_h1 X k))⟩ : Net.Oct (FVec F S16x128 .f32)) := (rfl)

theorem t1_stage23 : Net.top8 maximumf ⟨(trip_k0_t1.sl.v356 i arg5 k0_h1 X k), (trip_k0_t1.sl.v357 i arg5 k0_h1 X k), (trip_k0_t1.sl.v358 i arg5 k0_h1 X k), (trip_k0_t1.sl.v359 i arg5 k0_h1 X k), (trip_k0_t1.sl.v360 i arg5 k0_h1 X k), (trip_k0_t1.sl.v361 i arg5 k0_h1 X k), (trip_k0_t1.sl.v362 i arg5 k0_h1 X k), (trip_k0_t1.sl.v363 i arg5 k0_h1 X k)⟩ ⟨(trip_k0_t1.sl.v636 i arg5 k0_h1 X k), (minimumf (trip_k0_t1.sl.v628 i arg5 k0_h1 X k) (trip_k0_t1.sl.v630 i arg5 k0_h1 X k)), (maximumf (trip_k0_t1.sl.v629 i arg5 k0_h1 X k) (trip_k0_t1.sl.v631 i arg5 k0_h1 X k)), (minimumf (trip_k0_t1.sl.v629 i arg5 k0_h1 X k) (trip_k0_t1.sl.v631 i arg5 k0_h1 X k)), (maximumf (trip_k0_t1.sl.v632 i arg5 k0_h1 X k) (trip_k0_t1.sl.v634 i arg5 k0_h1 X k)), (minimumf (trip_k0_t1.sl.v632 i arg5 k0_h1 X k) (trip_k0_t1.sl.v634 i arg5 k0_h1 X k)), (maximumf (trip_k0_t1.sl.v633 i arg5 k0_h1 X k) (trip_k0_t1.sl.v635 i arg5 k0_h1 X k)), (minimumf (trip_k0_t1.sl.v633 i arg5 k0_h1 X k) (trip_k0_t1.sl.v635 i arg5 k0_h1 X k))⟩ = (⟨(trip_k0_t1.sl.v644 i arg5 k0_h1 X k), (trip_k0_t1.sl.v645 i arg5 k0_h1 X k), (trip_k0_t1.sl.v646 i arg5 k0_h1 X k), (maximumf (trip_k0_t1.sl.v359 i arg5 k0_h1 X k) (maximumf (trip_k0_t1.sl.v632 i arg5 k0_h1 X k) (trip_k0_t1.sl.v634 i arg5 k0_h1 X k))), (trip_k0_t1.sl.v648 i arg5 k0_h1 X k), (maximumf (trip_k0_t1.sl.v361 i arg5 k0_h1 X k) (maximumf (trip_k0_t1.sl.v629 i arg5 k0_h1 X k) (trip_k0_t1.sl.v631 i arg5 k0_h1 X k))), (maximumf (trip_k0_t1.sl.v362 i arg5 k0_h1 X k) (minimumf (trip_k0_t1.sl.v628 i arg5 k0_h1 X k) (trip_k0_t1.sl.v630 i arg5 k0_h1 X k))), (maximumf (trip_k0_t1.sl.v363 i arg5 k0_h1 X k) (trip_k0_t1.sl.v636 i arg5 k0_h1 X k))⟩ : Net.Oct (FVec F S16x128 .f32)) := (rfl)

/-- The network over the trip's rows, in the run's own values. -/
theorem t1_net : Net.net maximumf minimumf (octs (rows_t1 i arg5 k0_h1 X k)) = (⟨(trip_k0_t1.sl.v644 i arg5 k0_h1 X k), (trip_k0_t1.sl.v645 i arg5 k0_h1 X k), (trip_k0_t1.sl.v646 i arg5 k0_h1 X k), (maximumf (trip_k0_t1.sl.v359 i arg5 k0_h1 X k) (maximumf (trip_k0_t1.sl.v632 i arg5 k0_h1 X k) (trip_k0_t1.sl.v634 i arg5 k0_h1 X k))), (trip_k0_t1.sl.v648 i arg5 k0_h1 X k), (maximumf (trip_k0_t1.sl.v361 i arg5 k0_h1 X k) (maximumf (trip_k0_t1.sl.v629 i arg5 k0_h1 X k) (trip_k0_t1.sl.v631 i arg5 k0_h1 X k))), (maximumf (trip_k0_t1.sl.v362 i arg5 k0_h1 X k) (minimumf (trip_k0_t1.sl.v628 i arg5 k0_h1 X k) (trip_k0_t1.sl.v630 i arg5 k0_h1 X k))), (maximumf (trip_k0_t1.sl.v363 i arg5 k0_h1 X k) (trip_k0_t1.sl.v636 i arg5 k0_h1 X k))⟩ : Net.Oct (FVec F S16x128 .f32)) := by
  unfold Net.net Net.sort8
  rw [t1_octs7, t1_octs6, t1_octs5, t1_octs4, t1_octs3, t1_octs2, t1_octs1, t1_octs0, t1_stage1, t1_stage2, t1_stage3, t1_stage4, t1_stage5, t1_stage6, t1_stage7, t1_stage8, t1_stage9, t1_stage10, t1_stage11, t1_stage12, t1_stage13, t1_stage14, t1_stage15, t1_stage16, t1_stage17, t1_stage18, t1_stage19, t1_stage20, t1_stage21, t1_stage22, t1_stage23]

end t1

/-- The pieces a trip of the even loop writes: one, the candidates of its sixteen rows. -/
theorem trip_list_t1 (𝒱 : Variants) (c : Dev nD) (bd : Option 𝒱.V) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole) (arg0 : BitVec 32) (v2 : FVec F S256x64 .f32) (v3 : Vec F S8192x64 .f32)
    (k0_h1 : k0_cond1 i = 1#1) (X : BufTy.Contents (Elt F) arg5.view.ty) (k : Fin k0_t1_loop.trips) :
    tripL_k0_t1 (F := F) 𝒱 c bd i arg1 harg1 arg2 harg2 arg3 harg3 arg4 harg4 arg5 harg5 arg6 harg6 arg0 v2 v3 k0_h1 X k
      = [⟨Rect.unit (s := S256x1024) (k0_off2 k) S16x1024.size (k0_off2_inb i k k0_h1), netPay (rows_t1 i arg5 k0_h1 X k)⟩] := by
  unfold netPay tripL_k0_t1 trip_k0_t1
  rw [t1_net]
  rfl

section t2

variable (i : grid0.Coords) (arg4 : Memref sig .tc .vmem S256x8192 .f32) (k0_h3 : k0_cond3 i = 1#1) (X : BufTy.Contents (Elt F) arg4.view.ty) (k : Fin k0_t2_loop.trips)

/-- The sixteen rows of scores that trip `k` reads. -/
abbrev rows_t2 : Vec F S16x8192 .f32 := (arg4.view.readAt (Elt F) (Rect.unit (s := S256x8192) (k0_off3 k) S16x8192.size (k0_off3_inb i k k0_h3)).toLoadRect X)

theorem t2_octs0 : octs (rows_t2 i arg4 k0_h3 X k) 0 = (⟨(trip_k0_t2.sl.v84 i arg4 k0_h3 X k), (trip_k0_t2.sl.v85 i arg4 k0_h3 X k), (trip_k0_t2.sl.v86 i arg4 k0_h3 X k), (trip_k0_t2.sl.v87 i arg4 k0_h3 X k), (trip_k0_t2.sl.v88 i arg4 k0_h3 X k), (trip_k0_t2.sl.v89 i arg4 k0_h3 X k), (trip_k0_t2.sl.v90 i arg4 k0_h3 X k), (trip_k0_t2.sl.v91 i arg4 k0_h3 X k)⟩ : Net.Oct (FVec F S16x128 .f32)) := (rfl)

theorem t2_stage1 : Net.sortA maximumf minimumf ⟨(trip_k0_t2.sl.v84 i arg4 k0_h3 X k), (trip_k0_t2.sl.v85 i arg4 k0_h3 X k), (trip_k0_t2.sl.v86 i arg4 k0_h3 X k), (trip_k0_t2.sl.v87 i arg4 k0_h3 X k), (trip_k0_t2.sl.v88 i arg4 k0_h3 X k), (trip_k0_t2.sl.v89 i arg4 k0_h3 X k), (trip_k0_t2.sl.v90 i arg4 k0_h3 X k), (trip_k0_t2.sl.v91 i arg4 k0_h3 X k)⟩ = (⟨(trip_k0_t2.sl.v100 i arg4 k0_h3 X k), (trip_k0_t2.sl.v108 i arg4 k0_h3 X k), (trip_k0_t2.sl.v109 i arg4 k0_h3 X k), (trip_k0_t2.sl.v103 i arg4 k0_h3 X k), (trip_k0_t2.sl.v104 i arg4 k0_h3 X k), (trip_k0_t2.sl.v110 i arg4 k0_h3 X k), (trip_k0_t2.sl.v111 i arg4 k0_h3 X k), (trip_k0_t2.sl.v107 i arg4 k0_h3 X k)⟩ : Net.Oct (FVec F S16x128 .f32)) := (rfl)

theorem t2_stage2 : Net.sortB maximumf minimumf ⟨(trip_k0_t2.sl.v100 i arg4 k0_h3 X k), (trip_k0_t2.sl.v108 i arg4 k0_h3 X k), (trip_k0_t2.sl.v109 i arg4 k0_h3 X k), (trip_k0_t2.sl.v103 i arg4 k0_h3 X k), (trip_k0_t2.sl.v104 i arg4 k0_h3 X k), (trip_k0_t2.sl.v110 i arg4 k0_h3 X k), (trip_k0_t2.sl.v111 i arg4 k0_h3 X k), (trip_k0_t2.sl.v107 i arg4 k0_h3 X k)⟩ = (⟨(trip_k0_t2.sl.v112 i arg4 k0_h3 X k), (trip_k0_t2.sl.v124 i arg4 k0_h3 X k), (trip_k0_t2.sl.v125 i arg4 k0_h3 X k), (trip_k0_t2.sl.v126 i arg4 k0_h3 X k), (trip_k0_t2.sl.v127 i arg4 k0_h3 X k), (trip_k0_t2.sl.v128 i arg4 k0_h3 X k), (trip_k0_t2.sl.v129 i arg4 k0_h3 X k), (trip_k0_t2.sl.v119 i arg4 k0_h3 X k)⟩ : Net.Oct (FVec F S16x128 .f32)) := (rfl)

theorem t2_octs1 : octs (rows_t2 i arg4 k0_h3 X k) 1 = (⟨(trip_k0_t2.sl.v130 i arg4 k0_h3 X k), (trip_k0_t2.sl.v131 i arg4 k0_h3 X k), (trip_k0_t2.sl.v132 i arg4 k0_h3 X k), (trip_k0_t2.sl.v133 i arg4 k0_h3 X k), (trip_k0_t2.sl.v134 i arg4 k0_h3 X k), (trip_k0_t2.sl.v135 i arg4 k0_h3 X k), (trip_k0_t2.sl.v136 i arg4 k0_h3 X k), (trip_k0_t2.sl.v137 i arg4 k0_h3 X k)⟩ : Net.Oct (FVec F S16x128 .f32)) := (rfl)

theorem t2_stage3 : Net.sortA maximumf minimumf ⟨(trip_k0_t2.sl.v130 i arg4 k0_h3 X k), (trip_k0_t2.sl.v131 i arg4 k0_h3 X k), (trip_k0_t2.sl.v132 i arg4 k0_h3 X k), (trip_k0_t2.sl.v133 i arg4 k0_h3 X k), (trip_k0_t2.sl.v134 i arg4 k0_h3 X k), (trip_k0_t2.sl.v135 i arg4 k0_h3 X k), (trip_k0_t2.sl.v136 i arg4 k0_h3 X k), (trip_k0_t2.sl.v137 i arg4 k0_h3 X k)⟩ = (⟨(trip_k0_t2.sl.v146 i arg4 k0_h3 X k), (trip_k0_t2.sl.v154 i arg4 k0_h3 X k), (trip_k0_t2.sl.v155 i arg4 k0_h3 X k), (trip_k0_t2.sl.v149 i arg4 k0_h3 X k), (trip_k0_t2.sl.v150 i arg4 k0_h3 X k), (trip_k0_t2.sl.v156 i arg4 k0_h3 X k), (trip_k0_t2.sl.v157 i arg4 k0_h3 X k), (trip_k0_t2.sl.v153 i arg4 k0_h3 X k)⟩ : Net.Oct (FVec F S16x128 .f32)) := (rfl)

theorem t2_stage4 : Net.sortB maximumf minimumf ⟨(trip_k0_t2.sl.v146 i arg4 k0_h3 X k), (trip_k0_t2.sl.v154 i arg4 k0_h3 X k), (trip_k0_t2.sl.v155 i arg4 k0_h3 X k), (trip_k0_t2.sl.v149 i arg4 k0_h3 X k), (trip_k0_t2.sl.v150 i arg4 k0_h3 X k), (trip_k0_t2.sl.v156 i arg4 k0_h3 X k), (trip_k0_t2.sl.v157 i arg4 k0_h3 X k), (trip_k0_t2.sl.v153 i arg4 k0_h3 X k)⟩ = (⟨(trip_k0_t2.sl.v158 i arg4 k0_h3 X k), (trip_k0_t2.sl.v170 i arg4 k0_h3 X k), (trip_k0_t2.sl.v171 i arg4 k0_h3 X k), (trip_k0_t2.sl.v172 i arg4 k0_h3 X k), (trip_k0_t2.sl.v173 i arg4 k0_h3 X k), (trip_k0_t2.sl.v174 i arg4 k0_h3 X k), (trip_k0_t2.sl.v175 i arg4 k0_h3 X k), (trip_k0_t2.sl.v165 i arg4 k0_h3 X k)⟩ : Net.Oct (FVec F S16x128 .f32)) := (rfl)

theorem t2_stage5 : Net.merge8 maximumf minimumf ⟨(trip_k0_t2.sl.v112 i arg4 k0_h3 X k), (trip_k0_t2.sl.v124 i arg4 k0_h3 X k), (trip_k0_t2.sl.v125 i arg4 k0_h3 X k), (trip_k0_t2.sl.v126 i arg4 k0_h3 X k), (trip_k0_t2.sl.v127 i arg4 k0_h3 X k), (trip_k0_t2.sl.v128 i arg4 k0_h3 X k), (trip_k0_t2.sl.v129 i arg4 k0_h3 X k), (trip_k0_t2.sl.v119 i arg4 k0_h3 X k)⟩ ⟨(trip_k0_t2.sl.v158 i arg4 k0_h3 X k), (trip_k0_t2.sl.v170 i arg4 k0_h3 X k), (trip_k0_t2.sl.v171 i arg4 k0_h3 X k), (trip_k0_t2.sl.v172 i arg4 k0_h3 X k), (trip_k0_t2.sl.v173 i arg4 k0_h3 X k), (trip_k0_t2.sl.v174 i arg4 k0_h3 X k), (trip_k0_t2.sl.v175 i arg4 k0_h3 X k), (trip_k0_t2.sl.v165 i arg4 k0_h3 X k)⟩ = (⟨(trip_k0_t2.sl.v200 i arg4 k0_h3 X k), (trip_k0_t2.sl.v201 i arg4 k0_h3 X k), (trip_k0_t2.sl.v202 i arg4 k0_h3 X k), (trip_k0_t2.sl.v203 i arg4 k0_h3 X k), (trip_k0_t2.sl.v204 i arg4 k0_h3 X k), (trip_k0_t2.sl.v205 i arg4 k0_h3 X k), (trip_k0_t2.sl.v206 i arg4 k0_h3 X k), (trip_k0_t2.sl.v207 i arg4 k0_h3 X k)⟩ : Net.Oct (FVec F S16x128 .f32)) := (rfl)

theorem t2_octs2 : octs (rows_t2 i arg4 k0_h3 X k) 2 = (⟨(trip_k0_t2.sl.v208 i arg4 k0_h3 X k), (trip_k0_t2.sl.v209 i arg4 k0_h3 X k), (trip_k0_t2.sl.v210 i arg4 k0_h3 X k), (trip_k0_t2.sl.v211 i arg4 k0_h3 X k), (trip_k0_t2.sl.v212 i arg4 k0_h3 X k), (trip_k0_t2.sl.v213 i arg4 k0_h3 X k), (trip_k0_t2.sl.v214 i arg4 k0_h3 X k), (trip_k0_t2.sl.v215 i arg4 k0_h3 X k)⟩ : Net.Oct (FVec F S16x128 .f32)) := (rfl)

theorem t2_stage6 : Net.sortA maximumf minimumf ⟨(trip_k0_t2.sl.v208 i arg4 k0_h3 X k), (trip_k0_t2.sl.v209 i arg4 k0_h3 X k), (trip_k0_t2.sl.v210 i arg4 k0_h3 X k), (trip_k0_t2.sl.v211 i arg4 k0_h3 X k), (trip_k0_t2.sl.v212 i arg4 k0_h3 X k), (trip_k0_t2.sl.v213 i arg4 k0_h3 X k), (trip_k0_t2.sl.v214 i arg4 k0_h3 X k), (trip_k0_t2.sl.v215 i arg4 k0_h3 X k)⟩ = (⟨(trip_k0_t2.sl.v224 i arg4 k0_h3 X k), (trip_k0_t2.sl.v232 i arg4 k0_h3 X k), (trip_k0_t2.sl.v233 i arg4 k0_h3 X k), (trip_k0_t2.sl.v227 i arg4 k0_h3 X k), (trip_k0_t2.sl.v228 i arg4 k0_h3 X k), (trip_k0_t2.sl.v234 i arg4 k0_h3 X k), (trip_k0_t2.sl.v235 i arg4 k0_h3 X k), (trip_k0_t2.sl.v231 i arg4 k0_h3 X k)⟩ : Net.Oct (FVec F S16x128 .f32)) := (rfl)

theorem t2_stage7 : Net.sortB maximumf minimumf ⟨(trip_k0_t2.sl.v224 i arg4 k0_h3 X k), (trip_k0_t2.sl.v232 i arg4 k0_h3 X k), (trip_k0_t2.sl.v233 i arg4 k0_h3 X k), (trip_k0_t2.sl.v227 i arg4 k0_h3 X k), (trip_k0_t2.sl.v228 i arg4 k0_h3 X k), (trip_k0_t2.sl.v234 i arg4 k0_h3 X k), (trip_k0_t2.sl.v235 i arg4 k0_h3 X k), (trip_k0_t2.sl.v231 i arg4 k0_h3 X k)⟩ = (⟨(trip_k0_t2.sl.v236 i arg4 k0_h3 X k), (trip_k0_t2.sl.v248 i arg4 k0_h3 X k), (trip_k0_t2.sl.v249 i arg4 k0_h3 X k), (trip_k0_t2.sl.v250 i arg4 k0_h3 X k), (trip_k0_t2.sl.v251 i arg4 k0_h3 X k), (trip_k0_t2.sl.v252 i arg4 k0_h3 X k), (trip_k0_t2.sl.v253 i arg4 k0_h3 X k), (trip_k0_t2.sl.v243 i arg4 k0_h3 X k)⟩ : Net.Oct (FVec F S16x128 .f32)) := (rfl)

theorem t2_octs3 : octs (rows_t2 i arg4 k0_h3 X k) 3 = (⟨(trip_k0_t2.sl.v254 i arg4 k0_h3 X k), (trip_k0_t2.sl.v255 i arg4 k0_h3 X k), (trip_k0_t2.sl.v256 i arg4 k0_h3 X k), (trip_k0_t2.sl.v257 i arg4 k0_h3 X k), (trip_k0_t2.sl.v258 i arg4 k0_h3 X k), (trip_k0_t2.sl.v259 i arg4 k0_h3 X k), (trip_k0_t2.sl.v260 i arg4 k0_h3 X k), (trip_k0_t2.sl.v261 i arg4 k0_h3 X k)⟩ : Net.Oct (FVec F S16x128 .f32)) := (rfl)

theorem t2_stage8 : Net.sortA maximumf minimumf ⟨(trip_k0_t2.sl.v254 i arg4 k0_h3 X k), (trip_k0_t2.sl.v255 i arg4 k0_h3 X k), (trip_k0_t2.sl.v256 i arg4 k0_h3 X k), (trip_k0_t2.sl.v257 i arg4 k0_h3 X k), (trip_k0_t2.sl.v258 i arg4 k0_h3 X k), (trip_k0_t2.sl.v259 i arg4 k0_h3 X k), (trip_k0_t2.sl.v260 i arg4 k0_h3 X k), (trip_k0_t2.sl.v261 i arg4 k0_h3 X k)⟩ = (⟨(trip_k0_t2.sl.v270 i arg4 k0_h3 X k), (trip_k0_t2.sl.v278 i arg4 k0_h3 X k), (trip_k0_t2.sl.v279 i arg4 k0_h3 X k), (trip_k0_t2.sl.v273 i arg4 k0_h3 X k), (trip_k0_t2.sl.v274 i arg4 k0_h3 X k), (trip_k0_t2.sl.v280 i arg4 k0_h3 X k), (trip_k0_t2.sl.v281 i arg4 k0_h3 X k), (trip_k0_t2.sl.v277 i arg4 k0_h3 X k)⟩ : Net.Oct (FVec F S16x128 .f32)) := (rfl)

theorem t2_stage9 : Net.sortB maximumf minimumf ⟨(trip_k0_t2.sl.v270 i arg4 k0_h3 X k), (trip_k0_t2.sl.v278 i arg4 k0_h3 X k), (trip_k0_t2.sl.v279 i arg4 k0_h3 X k), (trip_k0_t2.sl.v273 i arg4 k0_h3 X k), (trip_k0_t2.sl.v274 i arg4 k0_h3 X k), (trip_k0_t2.sl.v280 i arg4 k0_h3 X k), (trip_k0_t2.sl.v281 i arg4 k0_h3 X k), (trip_k0_t2.sl.v277 i arg4 k0_h3 X k)⟩ = (⟨(trip_k0_t2.sl.v282 i arg4 k0_h3 X k), (trip_k0_t2.sl.v294 i arg4 k0_h3 X k), (trip_k0_t2.sl.v295 i arg4 k0_h3 X k), (trip_k0_t2.sl.v296 i arg4 k0_h3 X k), (trip_k0_t2.sl.v297 i arg4 k0_h3 X k), (trip_k0_t2.sl.v298 i arg4 k0_h3 X k), (trip_k0_t2.sl.v299 i arg4 k0_h3 X k), (trip_k0_t2.sl.v289 i arg4 k0_h3 X k)⟩ : Net.Oct (FVec F S16x128 .f32)) := (rfl)

theorem t2_stage10 : Net.merge8 maximumf minimumf ⟨(trip_k0_t2.sl.v236 i arg4 k0_h3 X k), (trip_k0_t2.sl.v248 i arg4 k0_h3 X k), (trip_k0_t2.sl.v249 i arg4 k0_h3 X k), (trip_k0_t2.sl.v250 i arg4 k0_h3 X k), (trip_k0_t2.sl.v251 i arg4 k0_h3 X k), (trip_k0_t2.sl.v252 i arg4 k0_h3 X k), (trip_k0_t2.sl.v253 i arg4 k0_h3 X k), (trip_k0_t2.sl.v243 i arg4 k0_h3 X k)⟩ ⟨(trip_k0_t2.sl.v282 i arg4 k0_h3 X k), (trip_k0_t2.sl.v294 i arg4 k0_h3 X k), (trip_k0_t2.sl.v295 i arg4 k0_h3 X k), (trip_k0_t2.sl.v296 i arg4 k0_h3 X k), (trip_k0_t2.sl.v297 i arg4 k0_h3 X k), (trip_k0_t2.sl.v298 i arg4 k0_h3 X k), (trip_k0_t2.sl.v299 i arg4 k0_h3 X k), (trip_k0_t2.sl.v289 i arg4 k0_h3 X k)⟩ = (⟨(trip_k0_t2.sl.v324 i arg4 k0_h3 X k), (trip_k0_t2.sl.v325 i arg4 k0_h3 X k), (trip_k0_t2.sl.v326 i arg4 k0_h3 X k), (trip_k0_t2.sl.v327 i arg4 k0_h3 X k), (trip_k0_t2.sl.v328 i arg4 k0_h3 X k), (trip_k0_t2.sl.v329 i arg4 k0_h3 X k), (trip_k0_t2.sl.v330 i arg4 k0_h3 X k), (trip_k0_t2.sl.v331 i arg4 k0_h3 X k)⟩ : Net.Oct (FVec F S16x128 .f32)) := (rfl)

theorem t2_stage11 : Net.merge8 maximumf minimumf ⟨(trip_k0_t2.sl.v200 i arg4 k0_h3 X k), (trip_k0_t2.sl.v201 i arg4 k0_h3 X k), (trip_k0_t2.sl.v202 i arg4 k0_h3 X k), (trip_k0_t2.sl.v203 i arg4 k0_h3 X k), (trip_k0_t2.sl.v204 i arg4 k0_h3 X k), (trip_k0_t2.sl.v205 i arg4 k0_h3 X k), (trip_k0_t2.sl.v206 i arg4 k0_h3 X k), (trip_k0_t2.sl.v207 i arg4 k0_h3 X k)⟩ ⟨(trip_k0_t2.sl.v324 i arg4 k0_h3 X k), (trip_k0_t2.sl.v325 i arg4 k0_h3 X k), (trip_k0_t2.sl.v326 i arg4 k0_h3 X k), (trip_k0_t2.sl.v327 i arg4 k0_h3 X k), (trip_k0_t2.sl.v328 i arg4 k0_h3 X k), (trip_k0_t2.sl.v329 i arg4 k0_h3 X k), (trip_k0_t2.sl.v330 i arg4 k0_h3 X k), (trip_k0_t2.sl.v331 i arg4 k0_h3 X k)⟩ = (⟨(trip_k0_t2.sl.v356 i arg4 k0_h3 X k), (trip_k0_t2.sl.v357 i arg4 k0_h3 X k), (trip_k0_t2.sl.v358 i arg4 k0_h3 X k), (trip_k0_t2.sl.v359 i arg4 k0_h3 X k), (trip_k0_t2.sl.v360 i arg4 k0_h3 X k), (trip_k0_t2.sl.v361 i arg4 k0_h3 X k), (trip_k0_t2.sl.v362 i arg4 k0_h3 X k), (trip_k0_t2.sl.v363 i arg4 k0_h3 X k)⟩ : Net.Oct (FVec F S16x128 .f32)) := (rfl)

theorem t2_octs4 : octs (rows_t2 i arg4 k0_h3 X k) 4 = (⟨(trip_k0_t2.sl.v364 i arg4 k0_h3 X k), (trip_k0_t2.sl.v365 i arg4 k0_h3 X k), (trip_k0_t2.sl.v366 i arg4 k0_h3 X k), (trip_k0_t2.sl.v367 i arg4 k0_h3 X k), (trip_k0_t2.sl.v368 i arg4 k0_h3 X k), (trip_k0_t2.sl.v369 i arg4 k0_h3 X k), (trip_k0_t2.sl.v370 i arg4 k0_h3 X k), (trip_k0_t2.sl.v371 i arg4 k0_h3 X k)⟩ : Net.Oct (FVec F S16x128 .f32)) := (rfl)

theorem t2_stage12 : Net.sortA maximumf minimumf ⟨(trip_k0_t2.sl.v364 i arg4 k0_h3 X k), (trip_k0_t2.sl.v365 i arg4 k0_h3 X k), (trip_k0_t2.sl.v366 i arg4 k0_h3 X k), (trip_k0_t2.sl.v367 i arg4 k0_h3 X k), (trip_k0_t2.sl.v368 i arg4 k0_h3 X k), (trip_k0_t2.sl.v369 i arg4 k0_h3 X k), (trip_k0_t2.sl.v370 i arg4 k0_h3 X k), (trip_k0_t2.sl.v371 i arg4 k0_h3 X k)⟩ = (⟨(trip_k0_t2.sl.v380 i arg4 k0_h3 X k), (trip_k0_t2.sl.v388 i arg4 k0_h3 X k), (trip_k0_t2.sl.v389 i arg4 k0_h3 X k), (trip_k0_t2.sl.v383 i arg4 k0_h3 X k), (trip_k0_t2.sl.v384 i arg4 k0_h3 X k), (trip_k0_t2.sl.v390 i arg4 k0_h3 X k), (trip_k0_t2.sl.v391 i arg4 k0_h3 X k), (trip_k0_t2.sl.v387 i arg4 k0_h3 X k)⟩ : Net.Oct (FVec F S16x128 .f32)) := (rfl)

theorem t2_stage13 : Net.sortB maximumf minimumf ⟨(trip_k0_t2.sl.v380 i arg4 k0_h3 X k), (trip_k0_t2.sl.v388 i arg4 k0_h3 X k), (trip_k0_t2.sl.v389 i arg4 k0_h3 X k), (trip_k0_t2.sl.v383 i arg4 k0_h3 X k), (trip_k0_t2.sl.v384 i arg4 k0_h3 X k), (trip_k0_t2.sl.v390 i arg4 k0_h3 X k), (trip_k0_t2.sl.v391 i arg4 k0_h3 X k), (trip_k0_t2.sl.v387 i arg4 k0_h3 X k)⟩ = (⟨(trip_k0_t2.sl.v392 i arg4 k0_h3 X k), (trip_k0_t2.sl.v404 i arg4 k0_h3 X k), (trip_k0_t2.sl.v405 i arg4 k0_h3 X k), (trip_k0_t2.sl.v406 i arg4 k0_h3 X k), (trip_k0_t2.sl.v407 i arg4 k0_h3 X k), (trip_k0_t2.sl.v408 i arg4 k0_h3 X k), (trip_k0_t2.sl.v409 i arg4 k0_h3 X k), (trip_k0_t2.sl.v399 i arg4 k0_h3 X k)⟩ : Net.Oct (FVec F S16x128 .f32)) := (rfl)

theorem t2_octs5 : octs (rows_t2 i arg4 k0_h3 X k) 5 = (⟨(trip_k0_t2.sl.v410 i arg4 k0_h3 X k), (trip_k0_t2.sl.v411 i arg4 k0_h3 X k), (trip_k0_t2.sl.v412 i arg4 k0_h3 X k), (trip_k0_t2.sl.v413 i arg4 k0_h3 X k), (trip_k0_t2.sl.v414 i arg4 k0_h3 X k), (trip_k0_t2.sl.v415 i arg4 k0_h3 X k), (trip_k0_t2.sl.v416 i arg4 k0_h3 X k), (trip_k0_t2.sl.v417 i arg4 k0_h3 X k)⟩ : Net.Oct (FVec F S16x128 .f32)) := (rfl)

theorem t2_stage14 : Net.sortA maximumf minimumf ⟨(trip_k0_t2.sl.v410 i arg4 k0_h3 X k), (trip_k0_t2.sl.v411 i arg4 k0_h3 X k), (trip_k0_t2.sl.v412 i arg4 k0_h3 X k), (trip_k0_t2.sl.v413 i arg4 k0_h3 X k), (trip_k0_t2.sl.v414 i arg4 k0_h3 X k), (trip_k0_t2.sl.v415 i arg4 k0_h3 X k), (trip_k0_t2.sl.v416 i arg4 k0_h3 X k), (trip_k0_t2.sl.v417 i arg4 k0_h3 X k)⟩ = (⟨(trip_k0_t2.sl.v426 i arg4 k0_h3 X k), (trip_k0_t2.sl.v434 i arg4 k0_h3 X k), (trip_k0_t2.sl.v435 i arg4 k0_h3 X k), (trip_k0_t2.sl.v429 i arg4 k0_h3 X k), (trip_k0_t2.sl.v430 i arg4 k0_h3 X k), (trip_k0_t2.sl.v436 i arg4 k0_h3 X k), (trip_k0_t2.sl.v437 i arg4 k0_h3 X k), (trip_k0_t2.sl.v433 i arg4 k0_h3 X k)⟩ : Net.Oct (FVec F S16x128 .f32)) := (rfl)

theorem t2_stage15 : Net.sortB maximumf minimumf ⟨(trip_k0_t2.sl.v426 i arg4 k0_h3 X k), (trip_k0_t2.sl.v434 i arg4 k0_h3 X k), (trip_k0_t2.sl.v435 i arg4 k0_h3 X k), (trip_k0_t2.sl.v429 i arg4 k0_h3 X k), (trip_k0_t2.sl.v430 i arg4 k0_h3 X k), (trip_k0_t2.sl.v436 i arg4 k0_h3 X k), (trip_k0_t2.sl.v437 i arg4 k0_h3 X k), (trip_k0_t2.sl.v433 i arg4 k0_h3 X k)⟩ = (⟨(trip_k0_t2.sl.v438 i arg4 k0_h3 X k), (trip_k0_t2.sl.v450 i arg4 k0_h3 X k), (trip_k0_t2.sl.v451 i arg4 k0_h3 X k), (trip_k0_t2.sl.v452 i arg4 k0_h3 X k), (trip_k0_t2.sl.v453 i arg4 k0_h3 X k), (trip_k0_t2.sl.v454 i arg4 k0_h3 X k), (trip_k0_t2.sl.v455 i arg4 k0_h3 X k), (trip_k0_t2.sl.v445 i arg4 k0_h3 X k)⟩ : Net.Oct (FVec F S16x128 .f32)) := (rfl)

theorem t2_stage16 : Net.merge8 maximumf minimumf ⟨(trip_k0_t2.sl.v392 i arg4 k0_h3 X k), (trip_k0_t2.sl.v404 i arg4 k0_h3 X k), (trip_k0_t2.sl.v405 i arg4 k0_h3 X k), (trip_k0_t2.sl.v406 i arg4 k0_h3 X k), (trip_k0_t2.sl.v407 i arg4 k0_h3 X k), (trip_k0_t2.sl.v408 i arg4 k0_h3 X k), (trip_k0_t2.sl.v409 i arg4 k0_h3 X k), (trip_k0_t2.sl.v399 i arg4 k0_h3 X k)⟩ ⟨(trip_k0_t2.sl.v438 i arg4 k0_h3 X k), (trip_k0_t2.sl.v450 i arg4 k0_h3 X k), (trip_k0_t2.sl.v451 i arg4 k0_h3 X k), (trip_k0_t2.sl.v452 i arg4 k0_h3 X k), (trip_k0_t2.sl.v453 i arg4 k0_h3 X k), (trip_k0_t2.sl.v454 i arg4 k0_h3 X k), (trip_k0_t2.sl.v455 i arg4 k0_h3 X k), (trip_k0_t2.sl.v445 i arg4 k0_h3 X k)⟩ = (⟨(trip_k0_t2.sl.v480 i arg4 k0_h3 X k), (trip_k0_t2.sl.v481 i arg4 k0_h3 X k), (trip_k0_t2.sl.v482 i arg4 k0_h3 X k), (trip_k0_t2.sl.v483 i arg4 k0_h3 X k), (trip_k0_t2.sl.v484 i arg4 k0_h3 X k), (trip_k0_t2.sl.v485 i arg4 k0_h3 X k), (trip_k0_t2.sl.v486 i arg4 k0_h3 X k), (trip_k0_t2.sl.v487 i arg4 k0_h3 X k)⟩ : Net.Oct (FVec F S16x128 .f32)) := (rfl)

theorem t2_octs6 : octs (rows_t2 i arg4 k0_h3 X k) 6 = (⟨(trip_k0_t2.sl.v488 i arg4 k0_h3 X k), (trip_k0_t2.sl.v489 i arg4 k0_h3 X k), (trip_k0_t2.sl.v490 i arg4 k0_h3 X k), (trip_k0_t2.sl.v491 i arg4 k0_h3 X k), (trip_k0_t2.sl.v492 i arg4 k0_h3 X k), (trip_k0_t2.sl.v493 i arg4 k0_h3 X k), (trip_k0_t2.sl.v494 i arg4 k0_h3 X k), (trip_k0_t2.sl.v495 i arg4 k0_h3 X k)⟩ : Net.Oct (FVec F S16x128 .f32)) := (rfl)

theorem t2_stage17 : Net.sortA maximumf minimumf ⟨(trip_k0_t2.sl.v488 i arg4 k0_h3 X k), (trip_k0_t2.sl.v489 i arg4 k0_h3 X k), (trip_k0_t2.sl.v490 i arg4 k0_h3 X k), (trip_k0_t2.sl.v491 i arg4 k0_h3 X k), (trip_k0_t2.sl.v492 i arg4 k0_h3 X k), (trip_k0_t2.sl.v493 i arg4 k0_h3 X k), (trip_k0_t2.sl.v494 i arg4 k0_h3 X k), (trip_k0_t2.sl.v495 i arg4 k0_h3 X k)⟩ = (⟨(trip_k0_t2.sl.v504 i arg4 k0_h3 X k), (trip_k0_t2.sl.v512 i arg4 k0_h3 X k), (trip_k0_t2.sl.v513 i arg4 k0_h3 X k), (trip_k0_t2.sl.v507 i arg4 k0_h3 X k), (trip_k0_t2.sl.v508 i arg4 k0_h3 X k), (trip_k0_t2.sl.v514 i arg4 k0_h3 X k), (trip_k0_t2.sl.v515 i arg4 k0_h3 X k), (trip_k0_t2.sl.v511 i arg4 k0_h3 X k)⟩ : Net.Oct (FVec F S16x128 .f32)) := (rfl)

theorem t2_stage18 : Net.sortB maximumf minimumf ⟨(trip_k0_t2.sl.v504 i arg4 k0_h3 X k), (trip_k0_t2.sl.v512 i arg4 k0_h3 X k), (trip_k0_t2.sl.v513 i arg4 k0_h3 X k), (trip_k0_t2.sl.v507 i arg4 k0_h3 X k), (trip_k0_t2.sl.v508 i arg4 k0_h3 X k), (trip_k0_t2.sl.v514 i arg4 k0_h3 X k), (trip_k0_t2.sl.v515 i arg4 k0_h3 X k), (trip_k0_t2.sl.v511 i arg4 k0_h3 X k)⟩ = (⟨(trip_k0_t2.sl.v516 i arg4 k0_h3 X k), (trip_k0_t2.sl.v528 i arg4 k0_h3 X k), (trip_k0_t2.sl.v529 i arg4 k0_h3 X k), (trip_k0_t2.sl.v530 i arg4 k0_h3 X k), (trip_k0_t2.sl.v531 i arg4 k0_h3 X k), (trip_k0_t2.sl.v532 i arg4 k0_h3 X k), (trip_k0_t2.sl.v533 i arg4 k0_h3 X k), (trip_k0_t2.sl.v523 i arg4 k0_h3 X k)⟩ : Net.Oct (FVec F S16x128 .f32)) := (rfl)

theorem t2_octs7 : octs (rows_t2 i arg4 k0_h3 X k) 7 = (⟨(trip_k0_t2.sl.v534 i arg4 k0_h3 X k), (trip_k0_t2.sl.v535 i arg4 k0_h3 X k), (trip_k0_t2.sl.v536 i arg4 k0_h3 X k), (trip_k0_t2.sl.v537 i arg4 k0_h3 X k), (trip_k0_t2.sl.v538 i arg4 k0_h3 X k), (trip_k0_t2.sl.v539 i arg4 k0_h3 X k), (trip_k0_t2.sl.v540 i arg4 k0_h3 X k), (trip_k0_t2.sl.v541 i arg4 k0_h3 X k)⟩ : Net.Oct (FVec F S16x128 .f32)) := (rfl)

theorem t2_stage19 : Net.sortA maximumf minimumf ⟨(trip_k0_t2.sl.v534 i arg4 k0_h3 X k), (trip_k0_t2.sl.v535 i arg4 k0_h3 X k), (trip_k0_t2.sl.v536 i arg4 k0_h3 X k), (trip_k0_t2.sl.v537 i arg4 k0_h3 X k), (trip_k0_t2.sl.v538 i arg4 k0_h3 X k), (trip_k0_t2.sl.v539 i arg4 k0_h3 X k), (trip_k0_t2.sl.v540 i arg4 k0_h3 X k), (trip_k0_t2.sl.v541 i arg4 k0_h3 X k)⟩ = (⟨(trip_k0_t2.sl.v550 i arg4 k0_h3 X k), (trip_k0_t2.sl.v558 i arg4 k0_h3 X k), (trip_k0_t2.sl.v559 i arg4 k0_h3 X k), (trip_k0_t2.sl.v553 i arg4 k0_h3 X k), (trip_k0_t2.sl.v554 i arg4 k0_h3 X k), (trip_k0_t2.sl.v560 i arg4 k0_h3 X k), (trip_k0_t2.sl.v561 i arg4 k0_h3 X k), (trip_k0_t2.sl.v557 i arg4 k0_h3 X k)⟩ : Net.Oct (FVec F S16x128 .f32)) := (rfl)

theorem t2_stage20 : Net.sortB maximumf minimumf ⟨(trip_k0_t2.sl.v550 i arg4 k0_h3 X k), (trip_k0_t2.sl.v558 i arg4 k0_h3 X k), (trip_k0_t2.sl.v559 i arg4 k0_h3 X k), (trip_k0_t2.sl.v553 i arg4 k0_h3 X k), (trip_k0_t2.sl.v554 i arg4 k0_h3 X k), (trip_k0_t2.sl.v560 i arg4 k0_h3 X k), (trip_k0_t2.sl.v561 i arg4 k0_h3 X k), (trip_k0_t2.sl.v557 i arg4 k0_h3 X k)⟩ = (⟨(trip_k0_t2.sl.v562 i arg4 k0_h3 X k), (trip_k0_t2.sl.v574 i arg4 k0_h3 X k), (trip_k0_t2.sl.v575 i arg4 k0_h3 X k), (trip_k0_t2.sl.v576 i arg4 k0_h3 X k), (trip_k0_t2.sl.v577 i arg4 k0_h3 X k), (trip_k0_t2.sl.v578 i arg4 k0_h3 X k), (trip_k0_t2.sl.v579 i arg4 k0_h3 X k), (trip_k0_t2.sl.v569 i arg4 k0_h3 X k)⟩ : Net.Oct (FVec F S16x128 .f32)) := (rfl)

theorem t2_stage21 : Net.merge8 maximumf minimumf ⟨(trip_k0_t2.sl.v516 i arg4 k0_h3 X k), (trip_k0_t2.sl.v528 i arg4 k0_h3 X k), (trip_k0_t2.sl.v529 i arg4 k0_h3 X k), (trip_k0_t2.sl.v530 i arg4 k0_h3 X k), (trip_k0_t2.sl.v531 i arg4 k0_h3 X k), (trip_k0_t2.sl.v532 i arg4 k0_h3 X k), (trip_k0_t2.sl.v533 i arg4 k0_h3 X k), (trip_k0_t2.sl.v523 i arg4 k0_h3 X k)⟩ ⟨(trip_k0_t2.sl.v562 i arg4 k0_h3 X k), (trip_k0_t2.sl.v574 i arg4 k0_h3 X k), (trip_k0_t2.sl.v575 i arg4 k0_h3 X k), (trip_k0_t2.sl.v576 i arg4 k0_h3 X k), (trip_k0_t2.sl.v577 i arg4 k0_h3 X k), (trip_k0_t2.sl.v578 i arg4 k0_h3 X k), (trip_k0_t2.sl.v579 i arg4 k0_h3 X k), (trip_k0_t2.sl.v569 i arg4 k0_h3 X k)⟩ = (⟨(trip_k0_t2.sl.v604 i arg4 k0_h3 X k), (trip_k0_t2.sl.v605 i arg4 k0_h3 X k), (trip_k0_t2.sl.v606 i arg4 k0_h3 X k), (trip_k0_t2.sl.v607 i arg4 k0_h3 X k), (trip_k0_t2.sl.v608 i arg4 k0_h3 X k), (trip_k0_t2.sl.v609 i arg4 k0_h3 X k), (trip_k0_t2.sl.v610 i arg4 k0_h3 X k), (trip_k0_t2.sl.v611 i arg4 k0_h3 X k)⟩ : Net.Oct (FVec F S16x128 .f32)) := (rfl)

theorem t2_stage22 : Net.merge8 maximumf minimumf ⟨(trip_k0_t2.sl.v480 i arg4 k0_h3 X k), (trip_k0_t2.sl.v481 i arg4 k0_h3 X k), (trip_k0_t2.sl.v482 i arg4 k0_h3 X k), (trip_k0_t2.sl.v483 i arg4 k0_h3 X k), (trip_k0_t2.sl.v484 i arg4 k0_h3 X k), (trip_k0_t2.sl.v485 i arg4 k0_h3 X k), (trip_k0_t2.sl.v486 i arg4 k0_h3 X k), (trip_k0_t2.sl.v487 i arg4 k0_h3 X k)⟩ ⟨(trip_k0_t2.sl.v604 i arg4 k0_h3 X k), (trip_k0_t2.sl.v605 i arg4 k0_h3 X k), (trip_k0_t2.sl.v606 i arg4 k0_h3 X k), (trip_k0_t2.sl.v607 i arg4 k0_h3 X k), (trip_k0_t2.sl.v608 i arg4 k0_h3 X k), (trip_k0_t2.sl.v609 i arg4 k0_h3 X k), (trip_k0_t2.sl.v610 i arg4 k0_h3 X k), (trip_k0_t2.sl.v611 i arg4 k0_h3 X k)⟩ = (⟨(trip_k0_t2.sl.v636 i arg4 k0_h3 X k), (minimumf (trip_k0_t2.sl.v628 i arg4 k0_h3 X k) (trip_k0_t2.sl.v630 i arg4 k0_h3 X k)), (maximumf (trip_k0_t2.sl.v629 i arg4 k0_h3 X k) (trip_k0_t2.sl.v631 i arg4 k0_h3 X k)), (minimumf (trip_k0_t2.sl.v629 i arg4 k0_h3 X k) (trip_k0_t2.sl.v631 i arg4 k0_h3 X k)), (maximumf (trip_k0_t2.sl.v632 i arg4 k0_h3 X k) (trip_k0_t2.sl.v634 i arg4 k0_h3 X k)), (minimumf (trip_k0_t2.sl.v632 i arg4 k0_h3 X k) (trip_k0_t2.sl.v634 i arg4 k0_h3 X k)), (maximumf (trip_k0_t2.sl.v633 i arg4 k0_h3 X k) (trip_k0_t2.sl.v635 i arg4 k0_h3 X k)), (minimumf (trip_k0_t2.sl.v633 i arg4 k0_h3 X k) (trip_k0_t2.sl.v635 i arg4 k0_h3 X k))⟩ : Net.Oct (FVec F S16x128 .f32)) := (rfl)

theorem t2_stage23 : Net.top8 maximumf ⟨(trip_k0_t2.sl.v356 i arg4 k0_h3 X k), (trip_k0_t2.sl.v357 i arg4 k0_h3 X k), (trip_k0_t2.sl.v358 i arg4 k0_h3 X k), (trip_k0_t2.sl.v359 i arg4 k0_h3 X k), (trip_k0_t2.sl.v360 i arg4 k0_h3 X k), (trip_k0_t2.sl.v361 i arg4 k0_h3 X k), (trip_k0_t2.sl.v362 i arg4 k0_h3 X k), (trip_k0_t2.sl.v363 i arg4 k0_h3 X k)⟩ ⟨(trip_k0_t2.sl.v636 i arg4 k0_h3 X k), (minimumf (trip_k0_t2.sl.v628 i arg4 k0_h3 X k) (trip_k0_t2.sl.v630 i arg4 k0_h3 X k)), (maximumf (trip_k0_t2.sl.v629 i arg4 k0_h3 X k) (trip_k0_t2.sl.v631 i arg4 k0_h3 X k)), (minimumf (trip_k0_t2.sl.v629 i arg4 k0_h3 X k) (trip_k0_t2.sl.v631 i arg4 k0_h3 X k)), (maximumf (trip_k0_t2.sl.v632 i arg4 k0_h3 X k) (trip_k0_t2.sl.v634 i arg4 k0_h3 X k)), (minimumf (trip_k0_t2.sl.v632 i arg4 k0_h3 X k) (trip_k0_t2.sl.v634 i arg4 k0_h3 X k)), (maximumf (trip_k0_t2.sl.v633 i arg4 k0_h3 X k) (trip_k0_t2.sl.v635 i arg4 k0_h3 X k)), (minimumf (trip_k0_t2.sl.v633 i arg4 k0_h3 X k) (trip_k0_t2.sl.v635 i arg4 k0_h3 X k))⟩ = (⟨(trip_k0_t2.sl.v644 i arg4 k0_h3 X k), (trip_k0_t2.sl.v645 i arg4 k0_h3 X k), (trip_k0_t2.sl.v646 i arg4 k0_h3 X k), (maximumf (trip_k0_t2.sl.v359 i arg4 k0_h3 X k) (maximumf (trip_k0_t2.sl.v632 i arg4 k0_h3 X k) (trip_k0_t2.sl.v634 i arg4 k0_h3 X k))), (trip_k0_t2.sl.v648 i arg4 k0_h3 X k), (maximumf (trip_k0_t2.sl.v361 i arg4 k0_h3 X k) (maximumf (trip_k0_t2.sl.v629 i arg4 k0_h3 X k) (trip_k0_t2.sl.v631 i arg4 k0_h3 X k))), (maximumf (trip_k0_t2.sl.v362 i arg4 k0_h3 X k) (minimumf (trip_k0_t2.sl.v628 i arg4 k0_h3 X k) (trip_k0_t2.sl.v630 i arg4 k0_h3 X k))), (maximumf (trip_k0_t2.sl.v363 i arg4 k0_h3 X k) (trip_k0_t2.sl.v636 i arg4 k0_h3 X k))⟩ : Net.Oct (FVec F S16x128 .f32)) := (rfl)

/-- The network over the trip's rows, in the run's own values. -/
theorem t2_net : Net.net maximumf minimumf (octs (rows_t2 i arg4 k0_h3 X k)) = (⟨(trip_k0_t2.sl.v644 i arg4 k0_h3 X k), (trip_k0_t2.sl.v645 i arg4 k0_h3 X k), (trip_k0_t2.sl.v646 i arg4 k0_h3 X k), (maximumf (trip_k0_t2.sl.v359 i arg4 k0_h3 X k) (maximumf (trip_k0_t2.sl.v632 i arg4 k0_h3 X k) (trip_k0_t2.sl.v634 i arg4 k0_h3 X k))), (trip_k0_t2.sl.v648 i arg4 k0_h3 X k), (maximumf (trip_k0_t2.sl.v361 i arg4 k0_h3 X k) (maximumf (trip_k0_t2.sl.v629 i arg4 k0_h3 X k) (trip_k0_t2.sl.v631 i arg4 k0_h3 X k))), (maximumf (trip_k0_t2.sl.v362 i arg4 k0_h3 X k) (minimumf (trip_k0_t2.sl.v628 i arg4 k0_h3 X k) (trip_k0_t2.sl.v630 i arg4 k0_h3 X k))), (maximumf (trip_k0_t2.sl.v363 i arg4 k0_h3 X k) (trip_k0_t2.sl.v636 i arg4 k0_h3 X k))⟩ : Net.Oct (FVec F S16x128 .f32)) := by
  unfold Net.net Net.sort8
  rw [t2_octs7, t2_octs6, t2_octs5, t2_octs4, t2_octs3, t2_octs2, t2_octs1, t2_octs0, t2_stage1, t2_stage2, t2_stage3, t2_stage4, t2_stage5, t2_stage6, t2_stage7, t2_stage8, t2_stage9, t2_stage10, t2_stage11, t2_stage12, t2_stage13, t2_stage14, t2_stage15, t2_stage16, t2_stage17, t2_stage18, t2_stage19, t2_stage20, t2_stage21, t2_stage22, t2_stage23]

end t2

/-- The pieces a trip of the odd loop writes: one, the candidates of its sixteen rows. -/
theorem trip_list_t2 (𝒱 : Variants) (c : Dev nD) (bd : Option 𝒱.V) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole) (arg0 : BitVec 32) (v2 : FVec F S256x64 .f32) (v3 : Vec F S8192x64 .f32)
    (k0_h3 : k0_cond3 i = 1#1) (X : BufTy.Contents (Elt F) arg4.view.ty) (k : Fin k0_t2_loop.trips) :
    tripL_k0_t2 (F := F) 𝒱 c bd i arg1 harg1 arg2 harg2 arg3 harg3 arg4 harg4 arg5 harg5 arg6 harg6 arg0 v2 v3 k0_h3 X k
      = [⟨Rect.unit (s := S256x1024) (k0_off4 k) S16x1024.size (k0_off4_inb i k k0_h3), netPay (rows_t2 i arg4 k0_h3 X k)⟩] := by
  unfold netPay tripL_k0_t2 trip_k0_t2
  rw [t2_net]
  rfl

end Cert.KernelIdeal.Hand

end
-- ==== Proof.Cand.lean ====
/-
  The candidates buffer after the kernel's row loop: every row holds the network's candidates of that row of scores,
  whatever the buffer held before.
-/
module

public import proofs.«01_k».proof.Proof.Trip
public import Idealize.ShloMosaic.Lib.WritesUnit
public import Idealize.ShloMosaic.Lib.VecWindow
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- Sixteen rows of a block of scores, from row `16 k`. -/
def rowsOf (X : Vec F S256x8192 .f32) (k : Fin 16) : Vec F S16x8192 .f32 := fun p =>
  X (ix2 ⟨16 * k.val + (p 0).val, by have := k.isLt; have : (p 0).val < 16 := (p 0).isLt; omega⟩ (p 1))

/-- The candidates of a block of scores, row by row. -/
def cand (X : Vec F S256x8192 .f32) : Vec F S256x1024 .f32 := fun y =>
  netPay (rowsOf X ⟨(y 0).val / 16, by have : (y 0).val < 256 := (y 0).isLt; omega⟩)
    (ix2 ⟨(y 0).val % 16, Nat.mod_lt _ (by decide)⟩ (y 1))

section t1

theorem t1_trips : k0_t1_loop.trips = 16 := by decide

theorem rows_t1_eq (i : grid0.Coords) (arg5 : Memref sig .tc .vmem S256x8192 .f32) (k0_h1 : k0_cond1 i = 1#1)
    (X : BufTy.Contents (Elt F) arg5.view.ty) (k : Fin k0_t1_loop.trips) :
    rows_t1 i arg5 k0_h1 X k = rowsOf (arg5.view.read (Elt F) X) ⟨k.val, t1_trips ▸ k.isLt⟩ := by
  funext p
  show arg5.view.read (Elt F) X _ = arg5.view.read (Elt F) X _
  congr 1
  have h := k0_off1_eq k
  have h0 : k0_off1 k 0 = 16 * k.val := by rw [h]; rfl
  have h1 : k0_off1 k 1 = 0 := by rw [h]; rfl
  funext a
  fin_cases a
  · apply Fin.ext
    show k0_off1 k 0 + 1 * (p 0).val = 16 * k.val + (p 0).val
    omega
  · apply Fin.ext
    show k0_off1 k 1 + 1 * (p 1).val = (p 1).val
    omega

/-- After `n` trips the first `16 n` rows hold their candidates. -/
theorem pb_t1_read (𝒱 : Variants) (c : Dev nD) (bd : Option 𝒱.V) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole) (arg0 : BitVec 32) (v2 : FVec F S256x64 .f32) (v3 : Vec F S8192x64 .f32)
    (k0_h1 : k0_cond1 i = 1#1) (X : BufTy.Contents (Elt F) arg5.view.ty) (G : BufTy.Contents (Elt F) arg6.view.ty) (n : ℕ) (hn : n ≤ 16)
    (y : S256x1024.Idx) (hy : (y 0).val < 16 * n) :
    arg6.view.read (Elt F) (arg6.view.writes (Elt F) G
      (pb_k0_t1 (F := F) 𝒱 c bd i arg1 harg1 arg2 harg2 arg3 harg3 arg4 harg4 arg5 harg5 arg6 harg6 arg0 v2 v3 k0_h1 X n)) y
      = cand (arg5.view.read (Elt F) X) y := by
  induction n with
  | zero => omega
  | succ n ih =>
    have hlt : n < k0_t1_loop.trips := by rw [t1_trips]; omega
    rw [pb_k0_t1_succ (F := F) 𝒱 c bd i arg1 harg1 arg2 harg2 arg3 harg3 arg4 harg4 arg5 harg5 arg6 harg6 arg0 v2 v3 k0_h1 X ⟨n, hlt⟩,
      trip_list_t1, List.singleton_append]
    by_cases hr : (y 0).val < 16 * n
    · rw [View.read_writes_cons_rows_of_not_mem (W := 16) arg6.view G _ _ _ y (k0_off2_eq ⟨n, hlt⟩) rfl (Or.inl hr)]
      exact ih (by omega) hr
    · have h1 : (y 0).val / 16 = n := by omega
      have h2 : (y 0).val - 16 * n < 16 := by omega
      refine (View.read_writes_cons_rows_of_mem (size := S16x1024.size) arg6.view G _ _ _ y
        (ix2 ⟨(y 0).val - 16 * n, h2⟩ (y 1) : S16x1024.Idx) (k0_off2_eq ⟨n, hlt⟩)
        (by show (y 0).val = 16 * n + ((y 0).val - 16 * n); omega) rfl).trans ?_
      rw [rows_t1_eq]
      unfold cand
      have e1 : (⟨n, t1_trips ▸ hlt⟩ : Fin 16) = ⟨(y 0).val / 16, by omega⟩ := Fin.ext h1.symm
      have h3 : (y 0).val - 16 * n = (y 0).val % 16 := by omega
      have e2 : (⟨(y 0).val - 16 * n, h2⟩ : Fin 16) = ⟨(y 0).val % 16, Nat.mod_lt _ (by decide)⟩ := Fin.ext h3
      rw [e1, e2]

/-- After the loop the buffer reads as the candidates of the scores. -/
theorem read_t1 (𝒱 : Variants) (c : Dev nD) (bd : Option 𝒱.V) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole) (arg0 : BitVec 32) (v2 : FVec F S256x64 .f32) (v3 : Vec F S8192x64 .f32)
    (k0_h1 : k0_cond1 i = 1#1) (X : BufTy.Contents (Elt F) arg5.view.ty) (G : BufTy.Contents (Elt F) arg6.view.ty) :
    arg6.view.read (Elt F) (arg6.view.writes (Elt F) G
      (pb_k0_t1 (F := F) 𝒱 c bd i arg1 harg1 arg2 harg2 arg3 harg3 arg4 harg4 arg5 harg5 arg6 harg6 arg0 v2 v3 k0_h1 X
        (Scf.trips k0_t1_loop.lb k0_t1_loop.ub k0_t1_loop.st)))
      = cand (arg5.view.read (Elt F) X) := by
  funext y
  rw [show Scf.trips k0_t1_loop.lb k0_t1_loop.ub k0_t1_loop.st = 16 from t1_trips]
  exact pb_t1_read 𝒱 c bd i arg1 harg1 arg2 harg2 arg3 harg3 arg4 harg4 arg5 harg5 arg6 harg6 arg0 v2 v3 k0_h1 X G 16 le_rfl y (y 0).isLt

end t1

section t2

theorem t2_trips : k0_t2_loop.trips = 16 := by decide

theorem rows_t2_eq (i : grid0.Coords) (arg4 : Memref sig .tc .vmem S256x8192 .f32) (k0_h3 : k0_cond3 i = 1#1)
    (X : BufTy.Contents (Elt F) arg4.view.ty) (k : Fin k0_t2_loop.trips) :
    rows_t2 i arg4 k0_h3 X k = rowsOf (arg4.view.read (Elt F) X) ⟨k.val, t2_trips ▸ k.isLt⟩ := by
  funext p
  show arg4.view.read (Elt F) X _ = arg4.view.read (Elt F) X _
  congr 1
  have h := k0_off3_eq k
  have h0 : k0_off3 k 0 = 16 * k.val := by rw [h]; rfl
  have h1 : k0_off3 k 1 = 0 := by rw [h]; rfl
  funext a
  fin_cases a
  · apply Fin.ext
    show k0_off3 k 0 + 1 * (p 0).val = 16 * k.val + (p 0).val
    omega
  · apply Fin.ext
    show k0_off3 k 1 + 1 * (p 1).val = (p 1).val
    omega

/-- After `n` trips the first `16 n` rows hold their candidates. -/
theorem pb_t2_read (𝒱 : Variants) (c : Dev nD) (bd : Option 𝒱.V) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole) (arg0 : BitVec 32) (v2 : FVec F S256x64 .f32) (v3 : Vec F S8192x64 .f32)
    (k0_h3 : k0_cond3 i = 1#1) (X : BufTy.Contents (Elt F) arg4.view.ty) (G : BufTy.Contents (Elt F) arg6.view.ty) (n : ℕ) (hn : n ≤ 16)
    (y : S256x1024.Idx) (hy : (y 0).val < 16 * n) :
    arg6.view.read (Elt F) (arg6.view.writes (Elt F) G
      (pb_k0_t2 (F := F) 𝒱 c bd i arg1 harg1 arg2 harg2 arg3 harg3 arg4 harg4 arg5 harg5 arg6 harg6 arg0 v2 v3 k0_h3 X n)) y
      = cand (arg4.view.read (Elt F) X) y := by
  induction n with
  | zero => omega
  | succ n ih =>
    have hlt : n < k0_t2_loop.trips := by rw [t2_trips]; omega
    rw [pb_k0_t2_succ (F := F) 𝒱 c bd i arg1 harg1 arg2 harg2 arg3 harg3 arg4 harg4 arg5 harg5 arg6 harg6 arg0 v2 v3 k0_h3 X ⟨n, hlt⟩,
      trip_list_t2, List.singleton_append]
    by_cases hr : (y 0).val < 16 * n
    · rw [View.read_writes_cons_rows_of_not_mem (W := 16) arg6.view G _ _ _ y (k0_off4_eq ⟨n, hlt⟩) rfl (Or.inl hr)]
      exact ih (by omega) hr
    · have h1 : (y 0).val / 16 = n := by omega
      have h2 : (y 0).val - 16 * n < 16 := by omega
      refine (View.read_writes_cons_rows_of_mem (size := S16x1024.size) arg6.view G _ _ _ y
        (ix2 ⟨(y 0).val - 16 * n, h2⟩ (y 1) : S16x1024.Idx) (k0_off4_eq ⟨n, hlt⟩)
        (by show (y 0).val = 16 * n + ((y 0).val - 16 * n); omega) rfl).trans ?_
      rw [rows_t2_eq]
      unfold cand
      have e1 : (⟨n, t2_trips ▸ hlt⟩ : Fin 16) = ⟨(y 0).val / 16, by omega⟩ := Fin.ext h1.symm
      have h3 : (y 0).val - 16 * n = (y 0).val % 16 := by omega
      have e2 : (⟨(y 0).val - 16 * n, h2⟩ : Fin 16) = ⟨(y 0).val % 16, Nat.mod_lt _ (by decide)⟩ := Fin.ext h3
      rw [e1, e2]

/-- After the loop the buffer reads as the candidates of the scores. -/
theorem read_t2 (𝒱 : Variants) (c : Dev nD) (bd : Option 𝒱.V) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole) (arg0 : BitVec 32) (v2 : FVec F S256x64 .f32) (v3 : Vec F S8192x64 .f32)
    (k0_h3 : k0_cond3 i = 1#1) (X : BufTy.Contents (Elt F) arg4.view.ty) (G : BufTy.Contents (Elt F) arg6.view.ty) :
    arg6.view.read (Elt F) (arg6.view.writes (Elt F) G
      (pb_k0_t2 (F := F) 𝒱 c bd i arg1 harg1 arg2 harg2 arg3 harg3 arg4 harg4 arg5 harg5 arg6 harg6 arg0 v2 v3 k0_h3 X
        (Scf.trips k0_t2_loop.lb k0_t2_loop.ub k0_t2_loop.st)))
      = cand (arg4.view.read (Elt F) X) := by
  funext y
  rw [show Scf.trips k0_t2_loop.lb k0_t2_loop.ub k0_t2_loop.st = 16 from t2_trips]
  exact pb_t2_read 𝒱 c bd i arg1 harg1 arg2 harg2 arg3 harg3 arg4 harg4 arg5 harg5 arg6 harg6 arg0 v2 v3 k0_h3 X G 16 le_rfl y (y 0).isLt

end t2

end Cert.KernelIdeal.Hand

end
-- ==== Proof.IdealRun.lean ====
/-
  One grid point of the idealized kernel, run once, with the values it leaves: the block of scores it stores, and the
  block of results it computes from the block of scores the point before it stored.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Tactic.Stretches
public import proofs.«01_k».proof.Proof.Cand

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's buffer held whole, at some contents. -/
abbrev some_ (c : Dev nD) {S : Shape} (M : Memref sig .tc .vmem S .f32) : sProp 𝕄 :=
  iprop(∃ d, owns (c : Thread nD τ) M fullShare d)

/-- The scores of a block of queries against every memory row. -/
def scores (q : Vec F S256x64 .f32) (mp : Vec F S8192x64 .f32) : Vec F S256x8192 .f32 := k0_pay492 (k0_pay1 q) mp

/-- The results of a block of queries, from their scores. -/
def outv (mp : Vec F S8192x64 .f32) (X : Vec F S256x8192 .f32) : Vec F S256x64 .f32 :=
  k0_pay2 mp (k0_pay498 (cand X)) (k0_pay499 (cand X)) (cand X) X

/-- A buffer of scores after a point: the scores of the point's block, unless the point is the last. -/
abbrev stored (c : Dev nD) (i : grid0.Coords) (M : Memref sig .tc .vmem S256x8192 .f32) (d : Vec F S256x8192 .f32) : sProp 𝕄 :=
  iprop(∃ d', owns (c : Thread nD τ) M fullShare d' ∗ ⌜(i 0).val < 32 → d' = d⌝)

/-- The guard of the store of scores is that the point is not the last. -/
theorem guard_iff : ∀ i : Fin 33, Scalar.cmpi .ne (Scalar.extui (Scalar.cmpi .slt (BitVec.ofNat 32 i.val) 32#32) : BitVec 32) 0#32 = 1#1 ↔ i.val < 32 := by decide

/-- The kernel at an even grid point: it reads the scores in `arg5`, leaves their results in its output and, unless the
    point is the last, its own block's scores in `arg4`. -/
theorem run_even (c : Dev nD) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole)
    (h1 : k0_cond1 i = 1#1) (h3 : ¬ k0_cond3 i = 1#1)
    (d1 : Vec F S256x64 .f32) (d2 : Vec F S8192x64 .f32) (dx : Vec F S256x8192 .f32) (K : PUnit → sProp 𝕄) :
    iprop(owns (c : Thread nD τ) arg1 fullShare d1 ∗ owns (c : Thread nD τ) arg2 fullShare d2
        ∗ some_ c arg3 ∗ some_ c arg4 ∗ owns (c : Thread nD τ) arg5 fullShare dx ∗ some_ c arg6
        ∗ (iprop(owns (c : Thread nD τ) arg1 fullShare d1 ∗ owns (c : Thread nD τ) arg2 fullShare d2
              ∗ owns (c : Thread nD τ) arg3 fullShare (outv d2 dx) ∗ stored c i arg4 (scores d1 d2) ∗ owns (c : Thread nD τ) arg5 fullShare dx ∗ some_ c arg6) -∗ K ⟨⟩))
      ⊢ wp frame (wpE (defs₀ (F := F)) Variants.none c none) Set.univ
          (cc0__body i arg1 harg1 arg2 harg2 arg3 harg3 arg4 harg4 arg5 harg5 arg6 harg6) K := by
  simp only [cc0__body_eq_skeleton]; unfold cc0__body_skel
  unfold stored some_ owns
  iintro ⟨⟨%f1, %e1, H1⟩, ⟨%f2, %e2, H2⟩, ⟨%d3, %f3, -, H3⟩, ⟨%dw, %fw, -, HW⟩, ⟨%fx, %ex, HX⟩, ⟨%d6, %f6, -, H6⟩, Hk⟩
  by_cases h2 : Scalar.cmpi .ne (Scalar.extui (Scalar.cmpi .slt (BitVec.ofNat 32 (i 0).val) 32#32)) 0#32 = 1#1
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro
      rw [View.read_writes_full]
      sl_open_run
      rw [View.readAt_full arg2.view f2, View.readAt_full arg5.view fx, View.readAt_full arg6.view, read_t1, e2, ex]
      rfl
    isplitl [HW]
    · iexists _; isplitl [HW]
      · iexists _; isplitr; swap; · iexact HW
        ipureintro; rfl
      ipureintro
      intro _
      sl_open_run
      rw [View.read_writes_full, View.readAt_full arg1.view f1, View.readAt_full arg2.view f2, e1, e2]
      rfl
    isplitl [HX]
    · iexists _; isplitr; swap; · iexact HX
      ipureintro; exact ex
    iexists _, _; isplitr; swap; · iexact H6
    ipureintro; rfl
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro
      rw [View.read_writes_full]
      sl_open_run
      rw [View.readAt_full arg2.view f2, View.readAt_full arg5.view fx, View.readAt_full arg6.view, read_t1, e2, ex]
      rfl
    isplitl [HW]
    · iexists _; isplitl [HW]
      · iexists _; isplitr; swap; · iexact HW
        ipureintro; rfl
      ipureintro
      intro hlt; exact absurd ((guard_iff _).2 hlt) h2
    isplitl [HX]
    · iexists _; isplitr; swap; · iexact HX
      ipureintro; exact ex
    iexists _, _; isplitr; swap; · iexact H6
    ipureintro; rfl

/-- The kernel at an odd grid point: it reads the scores in `arg4`, leaves their results in its output and, unless the
    point is the last, its own block's scores in `arg5`. -/
theorem run_odd (c : Dev nD) (i : grid0.Coords) (arg1 : Memref sig .tc .vmem S256x64 .f32) (harg1 : arg1.IsWhole)
    (arg2 : Memref sig .tc .vmem S8192x64 .f32) (harg2 : arg2.IsWhole) (arg3 : Memref sig .tc .vmem S256x64 .f32) (harg3 : arg3.IsWhole)
    (arg4 : Memref sig .tc .vmem S256x8192 .f32) (harg4 : arg4.IsWhole) (arg5 : Memref sig .tc .vmem S256x8192 .f32) (harg5 : arg5.IsWhole)
    (arg6 : Memref sig .tc .vmem S256x1024 .f32) (harg6 : arg6.IsWhole)
    (h1 : ¬ k0_cond1 i = 1#1) (h3 : k0_cond3 i = 1#1)
    (d1 : Vec F S256x64 .f32) (d2 : Vec F S8192x64 .f32) (dx : Vec F S256x8192 .f32) (K : PUnit → sProp 𝕄) :
    iprop(owns (c : Thread nD τ) arg1 fullShare d1 ∗ owns (c : Thread nD τ) arg2 fullShare d2
        ∗ some_ c arg3 ∗ owns (c : Thread nD τ) arg4 fullShare dx ∗ some_ c arg5 ∗ some_ c arg6
        ∗ (iprop(owns (c : Thread nD τ) arg1 fullShare d1 ∗ owns (c : Thread nD τ) arg2 fullShare d2
              ∗ owns (c : Thread nD τ) arg3 fullShare (outv d2 dx) ∗ owns (c : Thread nD τ) arg4 fullShare dx ∗ stored c i arg5 (scores d1 d2) ∗ some_ c arg6) -∗ K ⟨⟩))
      ⊢ wp frame (wpE (defs₀ (F := F)) Variants.none c none) Set.univ
          (cc0__body i arg1 harg1 arg2 harg2 arg3 harg3 arg4 harg4 arg5 harg5 arg6 harg6) K := by
  simp only [cc0__body_eq_skeleton]; unfold cc0__body_skel
  unfold stored some_ owns
  iintro ⟨⟨%f1, %e1, H1⟩, ⟨%f2, %e2, H2⟩, ⟨%d3, %f3, -, H3⟩, ⟨%fx, %ex, HX⟩, ⟨%dw, %fw, -, HW⟩, ⟨%d6, %f6, -, H6⟩, Hk⟩
  by_cases h2 : Scalar.cmpi .ne (Scalar.extui (Scalar.cmpi .slt (BitVec.ofNat 32 (i 0).val) 32#32)) 0#32 = 1#1
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro
      rw [View.read_writes_full]
      sl_open_run
      rw [View.readAt_full arg2.view f2, View.readAt_full arg4.view fx, View.readAt_full arg6.view, read_t2, e2, ex]
      rfl
    isplitl [HX]
    · iexists _; isplitr; swap; · iexact HX
      ipureintro; exact ex
    isplitl [HW]
    · iexists _; isplitl [HW]
      · iexists _; isplitr; swap; · iexact HW
        ipureintro; rfl
      ipureintro
      intro _
      sl_open_run
      rw [View.read_writes_full, View.readAt_full arg1.view f1, View.readAt_full arg2.view f2, e1, e2]
      rfl
    iexists _, _; isplitr; swap; · iexact H6
    ipureintro; rfl
  · sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro
      rw [View.read_writes_full]
      sl_open_run
      rw [View.readAt_full arg2.view f2, View.readAt_full arg4.view fx, View.readAt_full arg6.view, read_t2, e2, ex]
      rfl
    isplitl [HX]
    · iexists _; isplitr; swap; · iexact HX
      ipureintro; exact ex
    isplitl [HW]
    · iexists _; isplitl [HW]
      · iexists _; isplitr; swap; · iexact HW
        ipureintro; rfl
      ipureintro
      intro hlt; exact absurd ((guard_iff _).2 hlt) h2
    iexists _, _; isplitr; swap; · iexact H6
    ipureintro; rfl

end Cert.KernelIdeal.Hand

end
-- ==== Proof.Launch.lean ====
/-
  A run of a region followed by host lines, when each array can end at one content only: what the arrays hold at the end
  is then named, and so is what the lines after the region compute from them. The proof data may still leave open what
  the region keeps to itself.
-/
module

public import Idealize.ShloMosaic.Lib.Pipeline.FrameSuffix

@[expose] public section

noncomputable section

namespace Launch

open Idealize.ShloMosaic Idealize.ShloMosaic.TcCoe Idealize.ShloMosaic.Pipeline Idealize.ShloMosaic.Rounds
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ₀ : Labels} {P : Type} [Fintype P] [DecidableEq P]
  [∀ e, Nonempty (Val e)]

local notation "𝕄" => MT nD τ sig Unit Val ℕ (UR sig nD τ) ℕ

variable (pcs : P → PCfg sig Λ₀ Val) (a : (p : P) → (pcs p).Adm) (p : P) (kit : PLaunchFacts₀ (nD := nD) (τ := τ) pcs p)
  (defs₀ : Defs nD τ sig Val Λ₀) (𝒱₀ : Variants)

/-- Data that determine an array's last contents, of one array: what it holds is those, and the data allow them. -/
theorem arrAt_named (rd : (c : Dev nD) → RDat τ Val Unit ℕ (UR sig nD τ) ℕ (pin pcs a p) c) (c : Dev nD)
    (AN : (w : Fin (pin pcs a p).W) → Buf Val (((pin pcs a p).win w).arr.view.loc (c.tc : Thread nD τ)))
    (hAN : ∀ w G, (rd c).ArrAt w (pin pcs a p).N G → G = AN w) (w : Fin (pin pcs a p).W) :
    (iprop(∃ G, ⌜(rd c).ArrAt w (pin pcs a p).N G⌝ ∗ ((pin pcs a p).win w).arr.view.loc (c.tc : Thread nD τ) ↦[((pin pcs a p).win w).arr.view.set]{(rd c).share w} G) : sProp 𝕄)
      ⊢ iprop(⌜(rd c).ArrAt w (pin pcs a p).N (AN w)⌝ ∗ ((pin pcs a p).win w).arr.view.loc (c.tc : Thread nD τ) ↦[((pin pcs a p).win w).arr.view.set]{(rd c).share w} AN w) := by
  iintro ⟨%G, %hG, H⟩
  obtain rfl := hAN w G hG
  isplitr
  · ipureintro; exact hG
  iexact H

/-- Data that determine every array's last contents `AN` hold the arrays at `AN` in the end. -/
theorem arraysAt_named (rd : (c : Dev nD) → RDat τ Val Unit ℕ (UR sig nD τ) ℕ (pin pcs a p) c) (c : Dev nD)
    (AN : (w : Fin (pin pcs a p).W) → Buf Val (((pin pcs a p).win w).arr.view.loc (c.tc : Thread nD τ)))
    (hAN : ∀ w G, (rd c).ArrAt w (pin pcs a p).N G → G = AN w) :
    ((rd c).arraysAt (pin pcs a p).N : sProp 𝕄) ⊢ iprop(⌜∀ w, (rd c).ArrAt w (pin pcs a p).N (AN w)⌝ ∗ (rd c).arrays AN) := by
  unfold RDat.arraysAt RDat.arrays
  refine BIBase.Entails.trans (bigSep_mono fun w _ => arrAt_named pcs a p rd c AN hAN w) ?_
  iintro H
  ihave H := (BI.bigSep_pure_sep Finset.univ (fun w => (rd c).ArrAt w (pin pcs a p).N (AN w))
    (fun w => ((pin pcs a p).win w).arr.view.loc (c.tc : Thread nD τ) ↦[((pin pcs a p).win w).arr.view.set]{(rd c).share w} AN w)) $$ H
  icases H with ⟨%h, H⟩
  isplitr
  · ipureintro; exact fun w => h w (Finset.mem_univ w)
  iexact H

/-- And the other way, contents that the data allow. -/
theorem arrays_arraysAt (rd : (c : Dev nD) → RDat τ Val Unit ℕ (UR sig nD τ) ℕ (pin pcs a p) c) (c : Dev nD)
    (AN : (w : Fin (pin pcs a p).W) → Buf Val (((pin pcs a p).win w).arr.view.loc (c.tc : Thread nD τ)))
    (h : ∀ w, (rd c).ArrAt w (pin pcs a p).N (AN w)) :
    ((rd c).arrays AN : sProp 𝕄) ⊢ (rd c).arraysAt (pin pcs a p).N := by
  unfold RDat.arraysAt RDat.arrays
  refine bigSep_mono fun w _ => ?_
  have h2 : (((pin pcs a p).win w).arr.view.loc (c.tc : Thread nD τ) ↦[((pin pcs a p).win w).arr.view.set]{(rd c).share w} AN w : sProp 𝕄)
      ⊢ iprop(∃ G, ⌜(rd c).ArrAt w (pin pcs a p).N G⌝ ∗ ((pin pcs a p).win w).arr.view.loc (c.tc : Thread nD τ) ↦[((pin pcs a p).win w).arr.view.set]{(rd c).share w} G) := by
    iintro H
    iexists (AN w)
    isplitr
    · ipureintro; exact h w
    iexact H
  exact h2

include kit in
/-- The run: the arrays end at `AN`, every other buffer at what the lines after the region leave when they start from the
    arrays at `AN`, and every counter at zero. -/
theorem run_named (rd : (c : Dev nD) → RDat τ Val Unit ℕ (UR sig nD τ) ℕ (pin pcs a p) c)
    (AN : (c : Dev nD) → (w : Fin (pin pcs a p).W) → Buf Val (((pin pcs a p).win w).arr.view.loc (c.tc : Thread nD τ)))
    (hAN : ∀ c w G, (rd c).ArrAt w (pin pcs a p).N G → G = AN c w)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rd c).BodyObligation defs₀ 𝒱₀ () Set.univ)
    (hq : ∀ c w, ((pin pcs a p).spec w).isOut = false → (rd c).q w = shareOf (pin pcs a p).spec w) (howed : ∀ c t, (rd c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rd c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rd c).Φ 0)
    (hout : ∀ c, (rd c).Φ (Fin.last (pin pcs a p).N) ⊢ ΦA (pin pcs a p).spec c) :
    θ_run (Pipeline.defs pcs defs₀) (onTc main) (s₀ m g) (fun r =>
      (∀ c : Dev nD, (∀ w, r.2.mem (((pin pcs a p).spec w).arr.view.loc (c.tc : Thread nD τ)) = AN c w)
        ∧ ∀ b ∈ restRefsP sig (pcs p).pre (pin pcs a p).spec, r.2.mem ((c.tc : Thread nD τ).loc b)
            = StableHlo.after opss.flatten (withArrays (pin pcs a p).spec c (V₀ c) (AN c)) (Proc.devRef .tc b))
      ∧ r.2.sem = fun _ => 0) := by
  classical
  have hbufs : ∀ c, (∀ w, (rd c).ArrAt w (pin pcs a p).N (AN c w)) → (rd c).arrays (AN c)
      = arrBufs (pin pcs a p).spec c (fun b => withArrays (pin pcs a p).spec c (V₀ c) (AN c) (Proc.devRef .tc b)) := fun c h =>
    ((rd c).arrBufs_eq_arrays kit.sharedIn kit.arr_whole (hq c) _ (AN c) fun w =>
      (withArrays_arr_shared (pin pcs a p).spec c (V₀ c) (AN c) ((rd c).ArrAt_sharedIn kit.sharedIn (V₀ c) (hA c) (pin pcs a p).N (AN c) h)
        w).symm).symm
  let end_ : (c : Dev nD) → (b : Ref sig .tc) → Buf Val ((c.tc : Thread nD τ).loc b) := fun c b =>
    StableHlo.after opss.flatten (withArrays (pin pcs a p).spec c (V₀ c) (AN c)) (Proc.devRef .tc b)
  refine RDat.θ_run_region_pf_tail_quiescent pcs a (RDat.familyOf pcs a p rd) () (kit.cellOf_inj a) p kit.win (OwnSemFacts.none (pin pcs a p).spec)
    kit.pre emb₁ defs₀ 𝒱₀ m g main (fun _ => chain (opss.map StableHlo.seq)) (fun c => by rw [RDat.familyOf_self]; exact hbody c)
    kit.block_pos kit.arr_whole kit.stage_whole (fun c t => by rw [RDat.familyOf_self]; exact howed c t)
    (fun _ => iprop(emp)) (initOf (cells (pin pcs a) (kit.cellOf_inj a)) (launchToks (pin pcs a) (kit.cellOf_inj a))) ?_
    (fun c b => V₀ c (Proc.devRef .tc b)) hmain
    (fun c => by rw [RDat.familyOf_self]; exact (rd c).arrays_split_shared kit.sharedIn kit.arr_whole (hq c) _ _ (hA c))
    hpf (fun c => iprop(∃ r, prngReg c r)) (fun c => iprop(∃ r, prngReg c r))
    (fun c => unscopedRestP (Ix := Unit) (Name := ℕ) (U := UR sig nD τ) (Lvl := ℕ) (pcs p).pre (pin pcs a p).spec c (fun b => V₀ c (Proc.devRef .tc b)))
    (fun c => unscopedRestP (Ix := Unit) (Name := ℕ) (U := UR sig nD τ) (Lvl := ℕ) (pcs p).pre (pin pcs a p).spec c (end_ c))
    ?_ ?_ ?_ ?_ (fun c s => ∀ b ∈ restRefsP sig (pcs p).pre (pin pcs a p).spec, s.mem ((c.tc : Thread nD τ).loc b) = end_ c b) ?_ ?_
  · iintro Hu; imodintro
    isplitl [Hu]
    · iapply (show (ownU _ : sProp 𝕄) ⊢ BI.own (emb₁ (initOf (cells (pin pcs a) (kit.cellOf_inj a)) (launchToks (pin pcs a) (kit.cellOf_inj a)))) from .rfl)
      iexact Hu
    iapply (show (BI.emp : sProp 𝕄) ⊢ bigSep Finset.univ (fun _ : Dev nD => (BI.emp : sProp 𝕄)) from by rw [BI.bigSep_emp_const])
    iempintro
  · intro c
    iintro ⟨HU, -, -, Hp, -⟩; imodintro
    isplitl [Hp]
    · iexists _; iexact Hp
    iexact HU
  · intro c
    rw [RDat.familyOf_self]
    refine BIBase.Entails.trans ?_ (hin c)
    unfold ΦA ΦT
    iintro ⟨Hp, Ht, Hr⟩
    isplitr [Ht]
    · isplitl [Hr] <;> iassumption
    iexact Ht
  · intro c
    rw [RDat.familyOf_self]
    refine (hout c).trans ?_
    rw [ownSems0_none]; unfold ΦA
    iintro ⟨Hr, Hp⟩
    isplitl [Hp]; · iexact Hp
    isplitr; · iempintro
    iexact Hr
  · intro c Q'
    rw [RDat.familyOf_self]
    iintro ⟨Hk, Hb, Ha, HZ⟩
    ihave Ha := (arraysAt_named pcs a p rd c (AN c) (hAN c)) $$ Ha
    icases Ha with ⟨%h, Ha⟩
    iapply (tail_seqs_bufs_b pcs defs₀ 𝒱₀ (pcs p).pre (pin pcs a p).spec c (V₀ c) (AN c) opss hsub hfresh hkeep Q')
    isplitl [Hk]
    · iintro ⟨Hb, Ha, Hu⟩
      iapply Hk
      isplitl [Hb]; · iexact Hb
      isplitl [Ha]; · iapply (arrays_arraysAt pcs a p rd c (AN c) h); iapply (Entails.of_eq (hbufs c h).symm); iexact Ha
      iexact Hu
    isplitl [Hb]; · iexact Hb
    isplitl [Ha]; · iapply (Entails.of_eq (hbufs c h)); iexact Ha
    iexact HZ
  · intro c s'
    iintro ⟨-, HZ, HSI⟩
    unfold unscopedRestP
    ihave H := (pointsTo_read_all (restRefsP sig (pcs p).pre (pin pcs a p).spec) (fun b => (c.tc : Thread nD τ).loc b) (end_ c) s') $$ [HZ HSI]
    · isplitl [HZ] <;> iassumption
    icases H with ⟨%h, HSI⟩
    imodintro
    isplitr
    · ipureintro; exact h
    iexact HSI
  · intro s h hz
    exact ⟨fun c => ⟨fun w => by have := (h c).1 w; rw [RDat.familyOf_self] at this; exact hAN c w _ this, (h c).2.2⟩, hz⟩

end Launch

end
-- ==== Proof.IdealData.lean ====
/-
  The run of the idealized kernel. Every grid point but the first leaves in the output window the results of the block of
  queries whose scores the point before it stored; the first leaves there something no array receives.
-/
module

public import proofs.«01_k».proof.Proof.Gen.KernelIdeal.Frame
public import proofs.«01_k».proof.Proof.Gen.KernelIdeal.Points
public import proofs.«01_k».proof.Proof.IdealRun
public import proofs.«01_k».proof.Proof.Launch
public import Idealize.ShloMosaic.Lib.Pipeline.Frame
public import Idealize.ShloMosaic.Lib.Pipeline.DatRel
public import Idealize.ShloMosaic.Lib.Pipeline.ArrRel
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ)

/-- The scores that point `t` stores. -/
def sc (c : Dev nD) (t : Fin cfg0.N) : Vec F S256x8192 .f32 := scores (iblk m c 0 t) (iblk m c 1 t)

/-- The results that point `t` leaves in the output window, `t` not the first: of the scores that the point before it stored. -/
def res (c : Dev nD) (t : Fin cfg0.N) : Vec F S256x64 .f32 :=
  outv (iblk m c 1 t) (sc m c ⟨t.val - 1, lt_of_le_of_lt (Nat.sub_le _ _) t.isLt⟩)

/-- What a buffer of scores is known to hold when `n` points are past, the buffer being written at the points of parity `e`. -/
def known (c : Dev nD) (e n : Nat) (d : Vec F S256x8192 .f32) : Prop :=
  ∀ k : Fin cfg0.N, k.val + 1 = n → k.val % 2 = e → k.val < 32 → d = sc m c k

/-- The invariant between two points: the buffers of scores as far as they are known, the candidates at anything. -/
def inv (c : Dev nD) (n : Nat) : sProp 𝕄 :=
  iprop(iprop((∃ d, owns (c : Thread nD τ) (Memref.whole cc0_scratch0) fullShare d ∗ ⌜known m c 0 n d⌝)
      ∗ (∃ d, owns (c : Thread nD τ) (Memref.whole cc0_scratch1) fullShare d ∗ ⌜known m c 1 n d⌝)
      ∗ some_ c (Memref.whole cc0_scratch2)) ∗ (∃ r, prngReg c r))

/-- The output window is held to a relation, the inputs to their blocks. -/
def fgt : Fin 3 → Bool := ![false, false, true]

/-- The relation: from the second point on the output window ends at the point's results. -/
def Rl (c : Dev nD) : (w : Fin cfg0.W) → (t : Fin cfg0.N) → ((cfg0.win w).block.Idx → Elt F (cfg0.win w).elt) → Prop
  | ⟨0, _⟩, _, _ => True
  | ⟨1, _⟩, _, _ => True
  | ⟨2, _⟩, t, X => t.val ≠ 0 → X = res m c t

/-- The proof data on a core. -/
def dats (_ : Fin 1) (c : Dev nD) : Pipeline.Dat τ (Elt F) Unit ℕ (UR sig nD τ) ℕ cfg0 c where
  A w := V m c (Pipeline.arrRef spec0 w)
  after w t := match w with
    | ⟨0, h⟩ => iblk m c ⟨0, h⟩ t
    | ⟨1, h⟩ => iblk m c ⟨1, h⟩ t
    | ⟨2, _⟩ => res m c t
  Φ n := inv m c n.val
  q _ := fullShare
  owed _ := 0

theorem A_eq (c : Dev nD) (w : Fin cfg0.W) : (dats m 0 c).A w = V m c (Pipeline.arrRef spec0 w) := by dsimp only [dats]

/-- The invariant between two points: each scratch buffer at some contents and the generator register at some state. -/
theorem Phi_eq (c : Dev nD) :
    (Pipeline.ΦA (U := UR sig nD τ) (Val := Elt F) spec0 c : sProp 𝕄)
      = iprop(iprop(some_ c (Memref.whole cc0_scratch0) ∗ some_ c (Memref.whole cc0_scratch1) ∗ some_ c (Memref.whole cc0_scratch2))
          ∗ (∃ r, prngReg c r)) := by
  unfold Pipeline.ΦA; rw [scopedRest0_eq]; simp only [some_, owns_whole]; try rfl

/-- The parity of a grid point decides the kernel's two conditions. -/
theorem cond1_iff : ∀ t : Fin grid0.N, k0_cond1 (grid0.coords t) = 1#1 ↔ t.val % 2 = 0 := by decide
theorem cond3_iff : ∀ t : Fin grid0.N, k0_cond3 (grid0.coords t) = 1#1 ↔ t.val % 2 = 1 := by decide

/-- The grid's one coordinate is the point's number. -/
theorem coord_eq : ∀ t : Fin grid0.N, ((grid0.coords t) 0).val = t.val := by decide

/-- Before the first point nothing is known. -/
theorem inv_first (c : Dev nD) : (Pipeline.ΦA (U := UR sig nD τ) (Val := Elt F) spec0 c : sProp 𝕄) ⊢ inv m c 0 := by
  rw [Phi_eq]; unfold inv
  iintro ⟨⟨⟨%dA, HA⟩, ⟨%dB, HB⟩, HC⟩, Hg⟩
  isplitl [HA HB HC]
  · isplitl [HA]
    · iexists dA; isplitl [HA]
      · iexact HA
      ipureintro; intro k hk; omega
    isplitl [HB]
    · iexists dB; isplitl [HB]
      · iexact HB
      ipureintro; intro k hk; omega
    iexact HC
  iexact Hg

/-- What is known can be forgotten. -/
theorem inv_forget (c : Dev nD) (n : Nat) : inv m c n ⊢ (Pipeline.ΦA (U := UR sig nD τ) (Val := Elt F) spec0 c : sProp 𝕄) := by
  rw [Phi_eq]; unfold inv
  iintro ⟨⟨⟨%dA, HA, -⟩, ⟨%dB, HB, -⟩, HC⟩, Hg⟩
  isplitl [HA HB HC]
  · isplitl [HA]
    · iexists dA; iexact HA
    isplitl [HB]
    · iexists dB; iexact HB
    iexact HC
  iexact Hg

/-- The scores read at a point are those the point before it stored. -/
theorem res_of_known (c : Dev nD) (t : Fin cfg0.N) (e : Nat) (h : (t.val + 1) % 2 = e) (d : Vec F S256x8192 .f32)
    (hd : known m c e t.val d) : t.val ≠ 0 → outv (iblk m c 1 t) d = res m c t := fun h0 => by
  have hN : t.val < 33 := t.isLt
  unfold res
  rw [hd ⟨t.val - 1, lt_of_le_of_lt (Nat.sub_le _ _) t.isLt⟩ (by show t.val - 1 + 1 = t.val; omega)
    (by show (t.val - 1) % 2 = e; omega) (by show t.val - 1 < 32; omega)]

/-- The buffer a point writes is known after it. -/
theorem known_stored (c : Dev nD) (t : Fin cfg0.N) (e : Nat) (d : Vec F S256x8192 .f32)
    (hd : ((grid0.coords t) 0).val < 32 → d = scores (iblk m c 0 t) (iblk m c 1 t)) : known m c e (t.val + 1) d := fun k hk _ h32 => by
  obtain rfl : k = t := Fin.ext (by omega)
  exact hd (by rw [coord_eq]; exact h32)

/-- Of the other buffer nothing is known after it. -/
theorem known_other (c : Dev nD) (t : Fin cfg0.N) (e : Nat) (h : (t.val + 1) % 2 = e) (d : Vec F S256x8192 .f32) :
    known m c e (t.val + 1) d := fun k hk he _ => by omega

/-- What the body is called with at point `t`. -/
def bodyPre (c : Dev nD) (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, ⌜((dats m 0 c).toRRel fgt (Rl m c)).Finds 2 t d⌝ ∗ owns (c : Thread nD τ) (st0_2 t) fullShare d))
/-- What it returns. -/
def bodyPost (c : Dev nD) (t : Fin cfg0.N) : sProp 𝕄 :=
  iprop(inv m c (t.val + 1) ∗ (dats m 0 c).owesAt () t.succ
    ∗ owns (c : Thread nD τ) (st0_0 t) fullShare (iblk m c 0 t)
    ∗ owns (c : Thread nD τ) (st0_1 t) fullShare (iblk m c 1 t)
    ∗ (∃ d, ⌜Rl m c 2 t d⌝ ∗ owns (c : Thread nD τ) (st0_2 t) fullShare d))

/-- The body at a point, from the pipeline's resources to the pipeline's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 inv
  rw [show (dats m 0 c).owesAt () t.succ = (dats m 0 c).owesAt () t.castSucc from rfl]
  iintro ⟨⟨⟨⟨%dA, HA, %hA⟩, ⟨%dB, HB, %hB⟩, HC⟩, Hg⟩, HO, ⟨%d0, H0⟩, ⟨%d1, H1⟩, ⟨%d2, -, H2⟩⟩
  rw [before0_0_of m (dats m 0 c) (A_eq m c 0) (fun _ => rfl) t d0, before0_1_of m (dats m 0 c) (A_eq m c 1) (fun _ => rfl) t d1]
  rcases Nat.mod_two_eq_zero_or_one t.val with h | h
  · iapply (run_even c (grid0.coords t) _ _ _ _ _ _ _ _ _ _ _ _ ((cond1_iff t).2 h)
      (fun h' => by have := (cond3_iff t).1 h'; omega) (iblk m c 0 t) (iblk m c 1 t) dB _)
    isplitl [H0]; · iexact H0
    isplitl [H1]; · iexact H1
    isplitl [H2]; · iexists d2; iexact H2
    isplitl [HA]
    · iexists dA; iexact HA
    isplitl [HB]
    · iexact HB
    isplitl [HC]; · iexact HC
    iintro ⟨H0, H1, H2, ⟨%dA', HA, %hA'⟩, HB, HC⟩
    isplitl [HA HB HC Hg]
    · isplitl [HA HB HC]
      · isplitl [HA]
        · iexists _; isplitl [HA]
          · iexact HA
          ipureintro; exact known_stored m c t 0 dA' hA'
        isplitl [HB]
        · iexists _; isplitl [HB]
          · iexact HB
          ipureintro; exact known_other m c t 1 (by omega) dB
        iexact HC
      iexact Hg
    isplitl [HO]; · iexact HO
    isplitl [H0]; · iexact H0
    isplitl [H1]; · iexact H1
    iexists _; isplitr; swap
    · iexact H2
    ipureintro; exact res_of_known m c t 1 (by omega) dB hB
  · iapply (run_odd c (grid0.coords t) _ _ _ _ _ _ _ _ _ _ _ _ (fun h' => by have := (cond1_iff t).1 h'; omega)
      ((cond3_iff t).2 h) (iblk m c 0 t) (iblk m c 1 t) dA _)
    isplitl [H0]; · iexact H0
    isplitl [H1]; · iexact H1
    isplitl [H2]; · iexists d2; iexact H2
    isplitl [HA]
    · iexact HA
    isplitl [HB]
    · iexists dB; iexact HB
    isplitl [HC]; · iexact HC
    iintro ⟨H0, H1, H2, HA, ⟨%dB', HB, %hB'⟩, HC⟩
    isplitl [HA HB HC Hg]
    · isplitl [HA HB HC]
      · isplitl [HA]
        · iexists _; isplitl [HA]
          · iexact HA
          ipureintro; exact known_other m c t 0 (by omega) dA
        isplitl [HB]
        · iexists _; isplitl [HB]
          · iexact HB
          ipureintro; exact known_stored m c t 1 dB' hB'
        iexact HC
      iexact Hg
    isplitl [HO]; · iexact HO
    isplitl [H0]; · iexact H0
    isplitl [H1]; · iexact H1
    iexists _; isplitr; swap
    · iexact H2
    ipureintro; exact res_of_known m c t 0 (by omega) dA hA

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output held to the relation. -/
theorem body_obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The launch -/

/-- The output is the only window that is written back, -/
theorem out_is : ∀ w : Fin 3, ¬ (spec0 w).isOut = false → w = 2 := by decide
/-- and it is not written back at the first point. -/
theorem flush_ne : ∀ t : Fin grid0.N, win0_2.flush t = true → t.val ≠ 0 := by decide +kernel

/-- Whatever the data allow an array to hold in the end is what the exact data name: the output is written back only at
    points whose results the relation names. -/
theorem last_eq (c : Dev nD) (w : Fin cfg0.W) (G : Buf (Elt F) ((cfg0.win w).arr.view.loc (c.tc : Thread nD τ)))
    (h : ((dats m 0 c).toRRel fgt (Rl m c)).ArrAt w cfg0.N G) : G = (dats m 0 c).arrAt w cfg0.N := by
  by_cases hw : (cfg0.win w).isOut = false
  · rw [Pipeline.RDat.ArrAt_in _ w hw] at h
    rw [(dats m 0 c).arrAt_in w hw]
    exact h
  · obtain ⟨X, hX, hG⟩ := Pipeline.RDat.ArrAt.exists_exact h
    obtain rfl : w = 2 := out_is w hw
    refine (hG (dats m 0 c).after fun u hu hf => ?_).trans rfl
    have := (dats m 0 c).toRRel_leaves (fgt := fgt) (Rl := Rl m c) (w := 2) rfl (hX u hu hf)
    exact (this (flush_ne u hf)).symm

set_option backward.isDefEq.respectTransparency.types false in
/-- From any memory with zero counters every run of the program ends with the arrays and the host's buffers at named
    contents and every counter at zero. -/
theorem run_main (ρ : Dev nD → PrngReg) :
    θ_run defs (onTc (τ := τ) (main (F := F))) (s₀ m ρ) (fun r =>
      (∀ c : Dev nD, (∀ w, r.2.mem ((spec0 w).arr.view.loc (c.tc : Thread nD τ)) = (dats m 0 c).arrAt w cfg0.N)
        ∧ ∀ b ∈ Pipeline.restRefsP sig Pipeline.Prefetch.none spec0, r.2.mem ((c.tc : Thread nD τ).loc b)
            = StableHlo.after ([hostOps1] : List (List (HloOp τ sig (Elt F)))).flatten
                (Pipeline.withArrays spec0 c (V0 m c) (fun w => (dats m 0 c).arrAt w cfg0.N)) (Proc.devRef .tc b))
      ∧ r.2.sem = fun _ => 0) :=
  Launch.run_named (fun q => (cfgs q).toPCfg (Val := Elt F)) (fun q => (cfgs q).toPCfg_adm) (0 : Fin 1) launch0.toP.to₀ defs₀ Variants.none
    (fun c => (dats m 0 c).toRRel fgt (Rl m c)) (fun c w => (dats m 0 c).arrAt w cfg0.N) (fun c w G => last_eq m c w G) m ρ main
    (fun c => (body_obligation m c).toRRel)
    (fun c w hw => ((dats m 0 c).toRRel fgt (Rl m c)).q_eq_shareOf_of_share_full launch0.win.arr_inj (fun w => (dats m 0 c).share_full (fun _ => rfl) w) w hw)
    (fun _ _ => rfl) (V0 m) [hostOps1] sfx_sub sfx_fresh sfx_keeps (hmain m Variants.none) (fun c w => A_eq m c w) (fun _ k => k.elim0)
    (fun c => (show _ ⊢ Pipeline.ΦA spec0 c from by iintro ⟨H, -⟩; iexact H).trans (inv_first m c)) (fun c => inv_forget m c _)

end Cert.KernelIdeal.Hand

end
-- ==== Proof.Frames.lean ====
/-
  What the runs of the idealized kernel and of the reference end with: the arguments as they were, every counter at
  zero, and the kernel's result the output array, reshaped and transposed.
-/
module

public import proofs.«01_k».proof.Defs
public import proofs.«01_k».proof.Proof.IdealData
public import proofs.«01_k».proof.Proof.Gen.ReferenceIdeal
public import proofs.«01_k».proof.Proof.Gen.ReferenceIdeal.Run
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F] [Named F]
variable (m : (ℓ : Loc nD τ sig) → Buf (Elt F) ℓ)

/-- The output array at the end of the run. -/
def outArr (c : Dev nD) : Vec F S8192x64 .f32 := (dats m 0 c).arrAt 2 cfg0.N

/-- The contents of the buffers when the region has ended. -/
abbrev exit_ (c : Dev nD) : Valuation τ sig (Elt F) := Pipeline.withArrays spec0 c (V0 m c) (fun w => (dats m 0 c).arrAt w cfg0.N)

theorem exit_out (c : Dev nD) : exit_ m c (Proc.devRef .tc main_call0_v2) = outArr m c :=
  Pipeline.withArrays_arr spec0 launch0.win.arr_inj c (V0 m c) (fun w => (dats m 0 c).arrAt w cfg0.N) 2

/-- The last lines of the host, at the result. -/
theorem after_v0 (c : Dev nD) (W : Valuation τ sig (Elt F)) (o : Vec F S8192x64 .f32) (h : W (Proc.devRef .tc main_call0_v2) = o) :
    StableHlo.after ([hostOps1] : List (List (HloOp τ sig (Elt F)))).flatten W (Proc.devRef .tc main_v0)
      = transpose S8x64x32x32 [0, 3, 1, 2] (shapeCast S8x32x32x64 o shapeCasts_S8192x64_S8x32x32x64) transposes_S8x32x32x64_S8x64x32x32_0_3_1_2 := by
  subst h
  simp only [List.flatten_cons, List.flatten_nil, List.append_nil]
  after_results_simp <;> rfl

/-- And they do not write an argument. -/
theorem after_arg0 (W : Valuation τ sig (Elt F)) :
    StableHlo.after ([hostOps1] : List (List (HloOp τ sig (Elt F)))).flatten W (Proc.devRef .tc main_arg0) = W (Proc.devRef .tc main_arg0) := by
  simp only [List.flatten_cons, List.flatten_nil, List.append_nil]
  after_results_simp <;> rfl

/-- The run of the idealized kernel: its result, its arguments, its counters. -/
theorem run_value (ρ : Dev nD → PrngReg) :
    θ_run defs (onTc (τ := τ) (main (F := F))) ⟨m, fun _ => 0, ρ⟩ (fun r => (∀ c : Dev nD,
      r.2.mem ((c.tc : Thread nD τ).loc main_v0)
          = transpose S8x64x32x32 [0, 3, 1, 2] (shapeCast S8x32x32x64 (outArr m c) shapeCasts_S8192x64_S8x32x32x64) transposes_S8x32x32x64_S8x64x32x32_0_3_1_2
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).2 main_v0 (by decide)).trans (after_v0 c _ _ (exit_out m c)),
    (((h.1 c).2 main_arg0 (by decide)).trans (after_arg0 _)).trans
      ((Pipeline.withArrays_of_ne spec0 c (V0 m c) _ main_arg0 (by decide)).trans (V_main_arg0 m c)),
    ((h.1 c).1 1).trans (((dats m 0 c).arrAt_in 1 rfl _).trans ((A_eq m c 1).trans (V_main_arg1 m c)))⟩, h.2⟩) (run_main m ρ)

end Cert.KernelIdeal.Hand

namespace Cert.Proof

open Idealize.ShloMosaic Idealize.SL.Sem

/-- The frame of the idealized kernel. -/
theorem frame_pi : Cert.quiescent_KernelIdeal := fun m ρ _ =>
  (θ_run Cert.KernelIdeal.defs _ _).mono (fun _ h => ⟨fun c => (h.1 c).2, h.2⟩) (Cert.KernelIdeal.Hand.run_value m ρ)

/-- The frame of the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants: the mask is −∞ and the factor of the exponent is the inverse of log 2. -/
theorem preserves_ : Cert.preserves_Kernel_KernelIdeal :=
  ⟨IdealRules.named_const.statement Cert.KernelIdeal.κ "mask" .f32 0xFF61B1E6#32 ⊥ rfl,
    IdealRules.named_const.statement Cert.KernelIdeal.κ "log2e" .f32 0x3FB8AA3B#32 (((Real.log 2)⁻¹ : ℝ) : EReal) rfl⟩

end Cert.Proof

end
-- ==== Proof.RefRow.lean ====
/-
  What the reference computes, row by row: the scores of a query, the permutation that sorts them, the softmax of the
  eight largest, and the sparse attention row that holds it at their places.
-/
module

public import proofs.«01_k».proof.Proof.Gen.ReferenceIdeal
public import proofs.«01_k».proof.Proof.Gen.ReferenceIdeal.Run
public import Idealize.ShloMosaic.Lib.Pointwise
public import Idealize.ShloMosaic.Lib.IdealHost
public import Idealize.ShloMosaic.Lib.SortFacts
public import Idealize.ShloMosaic.Lib.Routing.OpsSet
public import Idealize.ShloMosaic.PureOps.Ideal.Laws

@[expose] public section

noncomputable section

namespace Ref

open Cert.ReferenceIdeal Cert.ReferenceIdeal.Gen
open Idealize.ShloMosaic Idealize.ShloMosaic.TcCoe
open scoped BigOperators

/-! ## The reference's text in pieces -/

/-- The queries, one a row. -/
def queries (x : FVec Ideal S8x64x32x32 .f32) : FVec Ideal S8192x64 .f32 :=
  shapeCast _ (transpose S8x32x32x64 [0, 2, 3, 1] x transposes_S8x64x32x32_S8x32x32x64_0_2_3_1) shapeCasts_S8x32x32x64_S8192x64

/-- The scores of every query against every row of the memory. -/
def att (q mp : FVec Ideal S8192x64 .f32) : FVec Ideal S8192x8192 .f32 :=
  Host.dotGeneral dot_S8192x64_S64x8192_S8192x8192_1_0_0_1_n_n none q (transpose S64x8192 [1, 0] mp transposes_S8192x64_S64x8192_1_0)

/-- The eight largest scores of every row. -/
def vals (A : FVec Ideal S8192x8192 .f32) : FVec Ideal S8192x8 .f32 :=
  (Host.topK S8192x8 1 (FloatOps.cmpfTotal .gt) A sliceFits_S8192x8192_S8192x8).1

/-- Their places. -/
def idxs (A : FVec Ideal S8192x8192 .f32) : IVec S8192x8 32 :=
  (Host.topK S8192x8 1 (FloatOps.cmpfTotal (F := Ideal) (φ := .f32) .gt) A sliceFits_S8192x8192_S8192x8).2

/-- A value for each row, broadcast along the eight. -/
def col (v : FVec Ideal S8192 .f32) : FVec Ideal S8192x8 .f32 :=
  broadcastInDim S8192x8 ![0, 1] bcast_S8192x1_S8192x8_0_1 (broadcastInDim S8192x1 ![0] bcast_S8192_S8192x1_0 v)

/-- The largest of the eight. -/
def maxs (v : FVec Ideal S8192x8 .f32) : FVec Ideal S8192 .f32 :=
  maximumf (broadcastInDim S8192 ![] bcast_S_S8192 (constant S_ .f32 0xFF800000#32))
    (Host.reduce FloatOps.maximumf v (constant S_ .f32 0xFF800000#32) reducesTo_S8192x8_S8192_d1 h_S_)

/-- The exponentials of the eight, the largest subtracted. -/
def exps (v : FVec Ideal S8192x8 .f32) : FVec Ideal S8192x8 .f32 := Host.exp (subf v (col (maxs v)))

/-- The softmax of the eight. -/
def soft (v : FVec Ideal S8192x8 .f32) : FVec Ideal S8192x8 .f32 :=
  Host.divf (exps v) (col (Host.reduceAdd (exps v) (constant S_ .f32 0x00000000#32) reducesTo_S8192x8_S8192_d1 h_S_))

/-- The row numbers, a column of them. -/
def rowNums : IVec S8192x1 32 := broadcastInDim S8192x1 ![0] bcast_S8192_S8192x1_0 (iotaInDim S8192 32 0)

/-- The row numbers, a negative one taken from the end. -/
def rowWords : IVec S8192x1 32 :=
  select (cmpi .slt rowNums (broadcastInDim S8192x1 ![] bcast_S_S8192x1 (constantI S_ 32 0#32)))
    (addi rowNums (broadcastInDim S8192x1 ![] bcast_S_S8192x1 (constantI S_ 32 8192#32))) rowNums

/-- The places, a negative one taken from the end. -/
def colWords (i : IVec S8192x8 32) : IVec S8192x8 32 :=
  select (cmpi .slt i (broadcastInDim S8192x8 ![] bcast_S_S8192x8 (constantI S_ 32 0#32)))
    (addi i (broadcastInDim S8192x8 ![] bcast_S_S8192x8 (constantI S_ 32 8192#32))) i

/-- The pairs of a row number and a place. -/
def pairs (i : IVec S8192x8 32) : IVec S8192x8x2 32 :=
  concatenate S8192x8x2 2
    [⟨S8192x8x1, broadcastInDim S8192x8x1 ![0, 1] bcast_S8192x8_S8192x8x1_0_1 (broadcastInDim S8192x8 ![0, 1] bcast_S8192x1_S8192x8_0_1 rowWords)⟩,
      ⟨S8192x8x1, broadcastInDim S8192x8x1 ![0, 1] bcast_S8192x8_S8192x8x1_0_1 (colWords i)⟩]
    concatenates_S8192x8x1_S8192x8x1_S8192x8x2_d2

/-- The sparse attention. -/
def sparse (A : FVec Ideal S8192x8192 .f32) : FVec Ideal S8192x8192 .f32 :=
  Host.scatter scatter_S8192x8192_S8192x8x2_S8192x8_n_01_01_2 (fun _ b => b)
    (broadcastInDim S8192x8192 ![] bcast_S_S8192x8192 (constant S_ .f32 0x00000000#32)) (pairs (idxs A)) (soft (vals A))

/-- The sparse attention times the memory. -/
def out (A : FVec Ideal S8192x8192 .f32) (mp : FVec Ideal S8192x64 .f32) : FVec Ideal S8192x64 .f32 :=
  Host.dotGeneral dot_S8192x8192_S8192x64_S8192x64_1_0_0_1_n_n none (sparse A) mp

/-- The reference's result in those pieces. -/
theorem res_eq (m : (ℓ : Loc nD τ sig) → Buf (Elt Ideal) ℓ) (c : Dev nD) :
    Cert.ReferenceIdeal.Value.res_main_v35 m c
      = transpose S8x64x32x32 [0, 3, 1, 2] (shapeCast S8x32x32x64
          (out (att (queries (m ((c.tc : Thread nD τ).loc main_arg0))) (m ((c.tc : Thread nD τ).loc main_arg1))) (m ((c.tc : Thread nD τ).loc main_arg1)))
          shapeCasts_S8192x64_S8x32x32x64) transposes_S8x32x32x64_S8x64x32x32_0_3_1_2 := rfl

/-! ## Each piece at an element -/

/-- The place that sorts to position `k` of a row of scores. -/
def ord (s : Fin 8192 → EReal) : Fin 8192 → Fin 8192 :=
  sortedFrom fun k k' => FloatOps.cmpfTotal (F := Ideal) (φ := .f32) .gt (s k) (s k') == 1#1

/-- The first eight places. -/
def place (s : Fin 8192 → EReal) (i : Fin 8) : Fin 8192 := ord s ⟨i.val, by omega⟩

theorem ord_inj (s : Fin 8192 → EReal) : Function.Injective (ord s) := sortedFrom_injective _

theorem ord_surj (s : Fin 8192 → EReal) : Function.Surjective (ord s) := sortedFrom_surjective _

theorem gt_iff (a b : EReal) : (FloatOps.cmpfTotal (F := Ideal) (φ := .f32) .gt a b == 1#1) = decide (b < a) := by
  show (Ideal.cmpTotal .gt a b == 1#1) = _
  unfold Ideal.cmpTotal Ideal.cmp CmpDirection.ordered
  by_cases h : b < a <;> simp [h]

theorem ord_antitone (s : Fin 8192 → EReal) : Antitone (s ∘ ord s) := by
  intro i j hij
  rcases eq_or_lt_of_le hij with rfl | hlt
  · exact le_rfl
  have h := sortedFrom_noInversion (fun k k' => FloatOps.cmpfTotal (F := Ideal) (φ := .f32) .gt (s k) (s k') == 1#1)
    (fun k k' => FloatOps.cmpfTotal (F := Ideal) (φ := .f32) .gt (s k) (s k') == 1#1)
    (by intro a b hab; simp only [gt_iff, decide_eq_true_eq, decide_eq_false_iff_not] at *; exact not_lt.mpr hab.le)
    (by intro a b hab; exact hab)
    (by intro a b c hab hbc; simp only [gt_iff, decide_eq_false_iff_not, not_lt] at *; exact hab.trans hbc) i j hlt
  have h' : decide (s (ord s i) < s (ord s j)) = false := (gt_iff _ _).symm.trans h
  exact not_lt.mp (of_decide_eq_false h')

/-- A row of an array of scores. -/
def row (A : FVec Ideal S8192x8192 .f32) (n : Fin 8192) : Fin 8192 → EReal := fun j => A (ix2 n j)

theorem along_eq (j : S8192x8192.Idx) (n k : Fin 8192) (h : j 0 = n) : j.along 1 k = (ix2 n k : S8192x8192.Idx) := by
  subst h
  funext a
  fin_cases a <;> rfl

/-- The two components of the sort, at an element. -/
theorem topK_apply (A : FVec Ideal S8192x8192 .f32) (n : Fin 8192) (i : Fin 8) :
    vals A (ix2 n i) = row A n (place (row A n) i) ∧ idxs A (ix2 n i) = BitVec.ofNat 32 (place (row A n) i).val := by
  have hj : ∀ (j : S8192x8192.Idx), j 0 = n → j 1 = (⟨i.val, by omega⟩ : Fin 8192) →
      sortedFrom (fun k k' => FloatOps.cmpfTotal (F := Ideal) (φ := .f32) .gt (A (j.along 1 k)) (A (j.along 1 k')) == 1#1) (j 1)
        = place (row A n) i := by
    intro j h0 h1
    have e : (fun k k' : Fin 8192 => FloatOps.cmpfTotal (F := Ideal) (φ := .f32) .gt (A (j.along 1 k)) (A (j.along 1 k')) == 1#1)
        = fun k k' => FloatOps.cmpfTotal (F := Ideal) (φ := .f32) .gt (row A n k) (row A n k') == 1#1 := by
      funext k k'
      rw [along_eq j n k h0, along_eq j n k' h0]
      rfl
    unfold place ord
    rw [h1]
    exact congrFun (congrArg sortedFrom e) _
  have h2 : ∀ (j : S8192x8192.Idx) (k : Fin 8192), j 0 = n → A (j.along 1 k) = row A n k := by
    intro j k h0
    rw [along_eq j n k h0]
    rfl
  have h3 : ∀ (j : S8192x8192.Idx) (k : Fin 8192), iotaInDim S8192x8192 32 1 (j.along 1 k) = BitVec.ofNat 32 k.val := by
    intro j k
    rw [along_eq j (j 0) k rfl]
    rfl
  have h12 : 1 < S8192x8192.rank := by decide
  constructor
  · unfold vals Host.topK Host.sort2
    simp only [dif_pos h12]
    exact (h2 _ _ (Fin.ext (Nat.zero_add _))).trans (congrArg (row A n) (hj _ (Fin.ext (Nat.zero_add _)) (Fin.ext (Nat.zero_add _))))
  · unfold idxs Host.topK Host.sort2
    simp only [dif_pos h12]
    exact (h3 _ _).trans (congrArg (fun k : Fin 8192 => BitVec.ofNat 32 k.val) (hj _ (Fin.ext (Nat.zero_add _)) (Fin.ext (Nat.zero_add _))))

/-- The word of −∞. -/
theorem ofBits_bot : Ideal.ofBits .f32 0xFF800000#32 = ⊥ := by
  simp [Ideal.ofBits, Ideal.ieee]

/-- The largest of a row's eight. -/
def peak (v : Fin 8 → EReal) : EReal := max ⊥ (Finset.univ.fold max ⊥ v)

/-- The softmax of eight numbers. -/
def softRow (v : Fin 8 → EReal) (i : Fin 8) : EReal := Ideal.div (Ideal.exp (v i - peak v)) (∑ k, Ideal.exp (v k - peak v))

theorem maxs_apply (v : FVec Ideal S8192x8 .f32) (n : Fin 8192) : maxs v (ix1 n) = peak (fun i => v (ix2 n i)) := by
  unfold maxs peak
  pointwise
  rw [ofBits_bot]

theorem exps_apply (v : FVec Ideal S8192x8 .f32) (n : Fin 8192) (i : Fin 8) :
    exps v (ix2 n i) = Ideal.exp (v (ix2 n i) - peak (fun i => v (ix2 n i))) := by
  rw [← maxs_apply]
  unfold exps col
  pointwise

theorem soft_apply (v : FVec Ideal S8192x8 .f32) (n : Fin 8192) (i : Fin 8) :
    soft v (ix2 n i) = softRow (fun i => v (ix2 n i)) i := by
  unfold softRow
  simp only [← exps_apply]
  unfold soft col
  pointwise

theorem pairs_apply (w : IVec S8192x8 32) (n : Fin 8192) (i : Fin 8) (hw : (w (ix2 n i)).toNat < 2 ^ 31) :
    pairs w (ix3 n i 0) = BitVec.ofNat 32 n.val ∧ pairs w (ix3 n i 1) = w (ix2 n i) := by
  unfold pairs rowWords rowNums colWords
  constructor
  · pointwise
    exact Routing.wrap_of_lt _ _ (by have := n.isLt; rw [BitVec.toNat_ofNat]; omega)
  · pointwise
    exact Routing.wrap_of_lt _ _ hw

/-- Which element an update of the sparse attention writes: its own row, at its own place. -/
theorem lands (A : FVec Ideal S8192x8192 .f32) (n' n : Fin 8192) (i : Fin 8) (j : Fin 8192) :
    scatter_S8192x8192_S8192x8x2_S8192x8_n_01_01_2.resultIdx? (ix2 n' i) (pairs (idxs A)) = some (ix2 n j)
      ↔ n' = n ∧ place (row A n') i = j := by
  have h1 := (topK_apply A n' i).2
  have hp := (place (row A n') i).isLt
  have hl : (idxs A (ix2 n' i)).toNat < 2 ^ 31 := by rw [h1, BitVec.toNat_ofNat]; omega
  have h := Routing.scatter_lands2 scatter_S8192x8192_S8192x8x2_S8192x8_n_01_01_2 rfl rfl rfl (pairs (idxs A)) n' i n j
  have e2 : pairs (idxs A) (ValueIdx.ix3 n' i 0) = BitVec.ofNat 32 n'.val := (pairs_apply (idxs A) n' i hl).1
  have e3 : pairs (idxs A) (ValueIdx.ix3 n' i 1) = BitVec.ofNat 32 (place (row A n') i).val := (pairs_apply (idxs A) n' i hl).2.trans h1
  rw [e2, e3, StableHlo.Predicate.toInt_ofNat_small _ (by omega), StableHlo.Predicate.toInt_ofNat_small _ (by omega)] at h
  refine h.trans ?_
  rw [Fin.ext_iff, Fin.ext_iff]
  omega

/-- The sparse attention at one of a row's eight places. -/
theorem sparse_hit (A : FVec Ideal S8192x8192 .f32) (n : Fin 8192) (i : Fin 8) :
    sparse A (ix2 n (place (row A n) i)) = softRow (fun k => row A n (place (row A n) k)) i := by
  have hinj : ∀ i k : Fin 8, place (row A n) i = place (row A n) k → i = k := fun i k h => by
    have := ord_inj _ h
    exact Fin.ext (Fin.mk.inj_iff.mp this)
  refine Routing.scatter_set_hit _ _ _ _ _ _ (fun k hk => ?_) (ix2 n i) ((lands A n n i _).mpr ⟨rfl, rfl⟩)
  obtain ⟨n', i', rfl⟩ : ∃ (n' : Fin 8192) (i' : Fin 8), k = ix2 n' i' := ⟨k 0, k 1, by funext a; fin_cases a <;> rfl⟩
  obtain ⟨rfl, hi⟩ := (lands A n' n i' _).mp hk
  obtain rfl := hinj _ _ hi
  rw [soft_apply]
  simp only [fun k => (topK_apply A n' k).1]

/-- The sparse attention elsewhere. -/
theorem sparse_miss (A : FVec Ideal S8192x8192 .f32) (n j : Fin 8192) (h : ∀ i, place (row A n) i ≠ j) : sparse A (ix2 n j) = 0 := by
  refine (Routing.scatter_set_miss _ _ _ _ _ (fun k hk => ?_)).trans ?_
  · obtain ⟨n', i', rfl⟩ : ∃ (n' : Fin 8192) (i' : Fin 8), k = ix2 n' i' := ⟨k 0, k 1, by funext a; fin_cases a <;> rfl⟩
    obtain ⟨rfl, hi⟩ := (lands A n' n i' _).mp hk
    exact h _ hi
  · pointwise

/-- The product with the memory, at an element. -/
theorem out_apply (A : FVec Ideal S8192x8192 .f32) (mp : FVec Ideal S8192x64 .f32) (n : Fin 8192) (d : Fin 64) :
    out A mp (ix2 n d) = ∑ j : Fin 8192, sparse A (ix2 n j) * mp (ix2 j d) := by
  unfold out
  pointwise

/-- A score. -/
theorem att_apply (q mp : FVec Ideal S8192x64 .f32) (n j : Fin 8192) :
    att q mp (ix2 n j) = ∑ k : Fin 64, q (ix2 n k) * mp (ix2 j k) := by
  unfold att
  pointwise

end Ref
-- ==== Proof.TopEight.lean ====
/-
  The eight largest values of a family of extended reals: what it is to hold them, how a count of the values above a bound
  finds them, what eight rounds of "take the maximum, then mask it" give, and a sum over the places that hold them.
-/
module

public import Mathlib.Data.EReal.Basic
public import Mathlib.Data.EReal.Operations
public import Mathlib.Algebra.BigOperators.Fin
public import Mathlib.Algebra.BigOperators.Ring.Finset
public import Mathlib.Order.Fin.Basic

@[expose] public section

namespace TopEight

open scoped BigOperators

variable {ι κ : Type} [Fintype ι] [DecidableEq ι] [Fintype κ] [DecidableEq κ]

/-- `e` lists the places of the eight largest values `v` of the family `X`. -/
structure Lists (X : ι → EReal) (v : Fin 8 → EReal) (e : Fin 8 → ι) : Prop where
  inj : Function.Injective e
  val : ∀ i, X (e i) = v i
  mem : ∀ l, v 7 ≤ X l → ∃ i, e i = l

/-- The number of values that pass a test. -/
def num (X : ι → EReal) (p : EReal → Bool) : ℕ := ∑ l, (p (X l)).toNat

theorem num_eq_card (X : ι → EReal) (p : EReal → Bool) : num X p = (Finset.univ.filter fun l => p (X l) = true).card := by
  rw [Finset.card_filter]
  refine Finset.sum_congr rfl fun l _ => ?_
  cases p (X l) <;> rfl

theorem last_le (v : Fin 8 → EReal) (hv : StrictAnti v) (i : Fin 8) : v 7 ≤ v i :=
  hv.antitone (Fin.le_last i)

/-- As many values are at least the `i`-th as there are indices up to `i`. -/
theorem num_le (X : ι → EReal) (v : Fin 8 → EReal) (hv : StrictAnti v) (e : Fin 8 → ι) (h : Lists X v e) (i : Fin 8) :
    num X (fun x => decide (v i ≤ x)) = i.val + 1 := by
  rw [num_eq_card]
  have : (Finset.univ.filter fun l => decide (v i ≤ X l) = true) = (Finset.Iic i).image e := by
    ext l
    simp only [Finset.mem_filter, Finset.mem_univ, true_and, decide_eq_true_eq, Finset.mem_image, Finset.mem_Iic]
    constructor
    · intro hl
      obtain ⟨k, rfl⟩ := h.mem l ((last_le v hv i).trans hl)
      rw [h.val] at hl
      exact ⟨k, hv.le_iff_ge.mp hl, rfl⟩
    · rintro ⟨k, hk, rfl⟩
      rw [h.val]
      exact hv.antitone hk
  rw [this, Finset.card_image_of_injective _ h.inj, Fin.card_Iic]

/-- As many values are larger than the `i`-th as there are indices below `i`. -/
theorem num_lt (X : ι → EReal) (v : Fin 8 → EReal) (hv : StrictAnti v) (e : Fin 8 → ι) (h : Lists X v e) (i : Fin 8) :
    num X (fun x => decide (v i < x)) = i.val := by
  rw [num_eq_card]
  have : (Finset.univ.filter fun l => decide (v i < X l) = true) = (Finset.Iio i).image e := by
    ext l
    simp only [Finset.mem_filter, Finset.mem_univ, true_and, decide_eq_true_eq, Finset.mem_image, Finset.mem_Iio]
    constructor
    · intro hl
      obtain ⟨k, rfl⟩ := h.mem l ((last_le v hv i).trans hl.le)
      rw [h.val] at hl
      exact ⟨k, hv.lt_iff_gt.mp hl, rfl⟩
    · rintro ⟨k, hk, rfl⟩
      rw [h.val]
      exact hv hk
  rw [this, Finset.card_image_of_injective _ h.inj, Fin.card_Iio]

/-- A family in which as many values are at least, and as many larger than, each of `v` holds them too. -/
theorem lists_of_num (C : κ → EReal) (v : Fin 8 → EReal) (hv : StrictAnti v)
    (hle : ∀ i, num C (fun x => decide (v i ≤ x)) = i.val + 1) (hlt : ∀ i, num C (fun x => decide (v i < x)) = i.val) :
    ∃ e, Lists C v e := by
  have hex : ∀ i, ∃ l, C l = v i := by
    intro i
    by_contra hno
    push Not at hno
    have : num C (fun x => decide (v i ≤ x)) = num C (fun x => decide (v i < x)) := by
      refine Finset.sum_congr rfl fun l _ => ?_
      have : v i ≤ C l ↔ v i < C l := ⟨fun h => lt_of_le_of_ne h (hno l).symm, le_of_lt⟩
      simp only [this]
    rw [hle, hlt] at this
    omega
  choose e he using hex
  have hinj : Function.Injective e := fun i k hik => hv.injective (by rw [← he i, ← he k, hik])
  refine ⟨e, hinj, he, fun l hl => ?_⟩
  have hsub : Finset.univ.image e ⊆ Finset.univ.filter fun l => decide (v 7 ≤ C l) = true := by
    intro l hl
    obtain ⟨i, _, rfl⟩ := Finset.mem_image.mp hl
    simp only [Finset.mem_filter, Finset.mem_univ, true_and, decide_eq_true_eq, he]
    exact last_le v hv i
  have hcard := hle 7
  rw [num_eq_card] at hcard
  have heq := Finset.eq_of_subset_of_card_le hsub (by
    rw [hcard, Finset.card_image_of_injective _ hinj, Finset.card_univ, Fintype.card_fin]; decide)
  have : l ∈ Finset.univ.image e := by
    rw [heq]; simpa using hl
  obtain ⟨i, _, hi⟩ := Finset.mem_image.mp this
  exact ⟨i, hi⟩

/-- A sum over the places with at least the eighth value is the sum over the eight. -/
theorem sum_listed (X : ι → EReal) (v : Fin 8 → EReal) (hv : StrictAnti v) (e : Fin 8 → ι) (h : Lists X v e) (f : ι → EReal)
    (hf : ∀ l, ¬ v 7 ≤ X l → f l = 0) : ∑ l, f l = ∑ i, f (e i) := by
  rw [← Finset.sum_image (s := Finset.univ) (g := e) (f := f) (fun a _ b _ hab => h.inj hab)]
  refine (Finset.sum_subset (Finset.subset_univ _) fun l _ hl => hf l fun hle => hl ?_).symm
  obtain ⟨i, rfl⟩ := h.mem l hle
  exact Finset.mem_image_of_mem e (Finset.mem_univ i)

/-- The maximum of a family. -/
noncomputable def top (X : ι → EReal) : EReal := Finset.univ.fold max ⊥ X

theorem top_eq (X : ι → EReal) (a : EReal) (hle : ∀ l, X l ≤ a) (hex : ∃ l, X l = a) : top X = a := by
  apply le_antisymm
  · exact Finset.sup_le fun l _ => hle l
  · obtain ⟨l, rfl⟩ := hex
    exact Finset.le_sup (f := X) (Finset.mem_univ l)

/-- The family with its values from `m` up masked. -/
noncomputable def mask (m : EReal) (X : ι → EReal) : ι → EReal := fun l => if m ≤ X l then ⊥ else X l

/-- The family after `r` rounds. -/
noncomputable def rounds (X : ι → EReal) : ℕ → ι → EReal
  | 0 => X
  | r + 1 => mask (top (rounds X r)) (rounds X r)

/-- After `r` rounds the values from the `(r-1)`-th up are masked, and the maximum is the `r`-th. -/
theorem top_rounds (X : ι → EReal) (v : Fin 8 → EReal) (hv : StrictAnti v) (e : Fin 8 → ι) (h : Lists X v e) (r : ℕ) (hr : r < 8) :
    top (rounds X r) = v ⟨r, hr⟩ ∧ ∀ l, rounds X r l = if ∃ k : Fin 8, k.val < r ∧ v k ≤ X l then ⊥ else X l := by
  have key : ∀ r : ℕ, ∀ hr : r < 8, (∀ l, rounds X r l = if ∃ k : Fin 8, k.val < r ∧ v k ≤ X l then ⊥ else X l) →
      top (rounds X r) = v ⟨r, hr⟩ := by
    intro r hr hl
    refine top_eq _ _ (fun l => ?_) ⟨e ⟨r, hr⟩, ?_⟩
    · rw [hl]
      split_ifs with hk
      · exact bot_le
      · by_contra hlt
        obtain ⟨k, rfl⟩ := h.mem l ((last_le v hv _).trans (not_le.mp hlt).le)
        rw [h.val] at hlt hk
        exact hk ⟨k, hv.lt_iff_gt.mp (not_le.mp hlt), le_rfl⟩
    · rw [hl, h.val, if_neg]
      rintro ⟨k, hk, hle⟩
      exact absurd (hv.le_iff_ge.mp hle) (by simpa [Fin.le_def] using hk)
  induction r with
  | zero =>
    have h0 : ∀ l, rounds X 0 l = if ∃ k : Fin 8, k.val < 0 ∧ v k ≤ X l then ⊥ else X l := by
      intro l
      rw [if_neg (by rintro ⟨k, hk, -⟩; omega)]
      rfl
    exact ⟨key 0 hr h0, h0⟩
  | succ r ih =>
    obtain ⟨ht, hl⟩ := ih (by omega)
    have hs : ∀ l, rounds X (r + 1) l = if ∃ k : Fin 8, k.val < r + 1 ∧ v k ≤ X l then ⊥ else X l := by
      intro l
      show (if top (rounds X r) ≤ rounds X r l then ⊥ else rounds X r l) = _
      rw [ht, hl]
      by_cases h1 : ∃ k : Fin 8, k.val < r ∧ v k ≤ X l
      · have h3 : ∃ k : Fin 8, k.val < r + 1 ∧ v k ≤ X l := by
          obtain ⟨k, hk, hle⟩ := h1
          exact ⟨k, by omega, hle⟩
        rw [if_pos h1, if_pos h3]
        simp
      · rw [if_neg h1]
        by_cases h2 : v ⟨r, by omega⟩ ≤ X l
        · rw [if_pos h2, if_pos ⟨⟨r, by omega⟩, by simp, h2⟩]
        · rw [if_neg h2, if_neg]
          rintro ⟨k, hk, hle⟩
          rcases Nat.lt_succ_iff_lt_or_eq.mp hk with hk | hk
          · exact h1 ⟨k, hk, hle⟩
          · exact h2 (by rwa [show (⟨r, by omega⟩ : Fin 8) = k from Fin.ext hk.symm])
    exact ⟨key (r + 1) hr hs, hs⟩

end TopEight
-- ==== Proof.Separated.lean ====
/-
  What the precondition says of a row of scores: the nine largest strictly decrease, and the largest of all is not +∞.
-/
module

public import proofs.«01_k».proof.Pre_separated
public import proofs.«01_k».proof.Proof.RefRow
public import proofs.«01_k».proof.Proof.TopEight
public import Idealize.ShloMosaic.Lib.ReduceAll
public import Idealize.ShloMosaic.Lib.Pointwise

@[expose] public section

noncomputable section

namespace Separated

open Cert.Pre_separated
open Idealize.ShloMosaic Idealize.ShloMosaic.TcCoe
open TopEight

/-- The side conditions of the precondition's text. -/
theorem facts : Cert.Pre_separated.Facts where
  transposes_S8x64x32x32_S8x32x32x64_0_2_3_1 := by decide
  shapeCasts_S8x32x32x64_S8192x64 := by decide
  transposes_S8192x64_S64x8192_1_0 := by decide
  sliceFits_S8192x8192_S8192x9 := by decide
  slices_S8192x9_S8192x8_0_0 := by decide
  slices_S8192x9_S8192x8_0_1 := by decide
  reducesTo_S8192x8_S_d0_1 := by decide
  h_S_ := by decide
  slices_S8192x9_S8192x1_0_0 := by decide
  shapeCasts_S8192x1_S8192 := by decide
  bcast_S_S8192 := by decide
  reducesTo_S8192_S_d0 := by decide
  dot_S8192x64_S64x8192_S8192x8192_1_0_0_1_n_n_wf := by decide

attribute [local instance] facts
open Facts

/-- The nine largest scores of every row. -/
def nine (A : FVec Ideal S8192x8192 .f32) : FVec Ideal S8192x9 .f32 :=
  (Host.topK S8192x9 1 (FloatOps.cmpfTotal .gt) A sliceFits_S8192x8192_S8192x9).1

theorem nine_apply (A : FVec Ideal S8192x8192 .f32) (n : Fin 8192) (i : Fin 9) :
    nine A (ix2 n i) = Ref.row A n (Ref.ord (Ref.row A n) ⟨i.val, by omega⟩) := by
  have hj : ∀ (j : S8192x8192.Idx), j 0 = n → j 1 = (⟨i.val, by omega⟩ : Fin 8192) →
      sortedFrom (fun k k' => FloatOps.cmpfTotal (F := Ideal) (φ := .f32) .gt (A (j.along 1 k)) (A (j.along 1 k')) == 1#1) (j 1)
        = Ref.ord (Ref.row A n) ⟨i.val, by omega⟩ := by
    intro j h0 h1
    have e : (fun k k' : Fin 8192 => FloatOps.cmpfTotal (F := Ideal) (φ := .f32) .gt (A (j.along 1 k)) (A (j.along 1 k')) == 1#1)
        = fun k k' => FloatOps.cmpfTotal (F := Ideal) (φ := .f32) .gt (Ref.row A n k) (Ref.row A n k') == 1#1 := by
      funext k k'
      rw [Ref.along_eq j n k h0, Ref.along_eq j n k' h0]
      rfl
    unfold Ref.ord
    rw [h1]
    exact congrFun (congrArg sortedFrom e) _
  have h2 : ∀ (j : S8192x8192.Idx) (k : Fin 8192), j 0 = n → A (j.along 1 k) = Ref.row A n k := by
    intro j k h0
    rw [Ref.along_eq j n k h0]
    rfl
  have h12 : 1 < S8192x8192.rank := by decide
  unfold nine Host.topK Host.sort2
  simp only [dif_pos h12]
  exact (h2 _ _ (Fin.ext (Nat.zero_add _))).trans (congrArg (Ref.row A n) (hj _ (Fin.ext (Nat.zero_add _)) (Fin.ext (Nat.zero_add _))))

/-- The precondition, at a row: neighbours among the nine largest scores decrease, and the first is below +∞. -/
theorem decode (x : FVec Ideal S8x64x32x32 .f32) (mp : FVec Ideal S8192x64 .f32)
    (h : Cert.Pre_separated.fn (F := Ideal) x mp = fun _ => 1#1) (n : Fin 8192) :
    (∀ i : Fin 8, nine (Ref.att (Ref.queries x) mp) (ix2 n (i.succ : Fin 9)) < nine (Ref.att (Ref.queries x) mp) (ix2 n (i.castSucc : Fin 9)))
      ∧ nine (Ref.att (Ref.queries x) mp) (ix2 n (0 : Fin 9)) < ⊤ := by
  have hA : Cert.Pre_separated.fn (F := Ideal) x mp =
      andi (Host.reduce IntOp.andi (cmpf .ogt (extractStridedSlice S8192x8 ![0, 0] (nine (Ref.att (Ref.queries x) mp)) slices_S8192x9_S8192x8_0_0)
          (extractStridedSlice S8192x8 ![0, 1] (nine (Ref.att (Ref.queries x) mp)) slices_S8192x9_S8192x8_0_1)) (constantI S_ 1 1#1) reducesTo_S8192x8_S_d0_1 h_S_)
        (Host.reduce IntOp.andi (cmpf .olt (shapeCast S8192 (extractStridedSlice S8192x1 ![0, 0] (nine (Ref.att (Ref.queries x) mp)) slices_S8192x9_S8192x1_0_0) shapeCasts_S8192x1_S8192)
          (broadcastInDim S8192 ![] bcast_S_S8192 (constant S_ .f32 0x7F800000#32))) (constantI S_ 1 1#1) reducesTo_S8192_S_d0 h_S_) := rfl
  rw [hA] at h
  generalize nine (Ref.att (Ref.queries x) mp) = N at h
  obtain ⟨h1, h2⟩ := IntOp.andi_eq_one.1 (congrFun h (fun a => a.elim0))
  haveI : Subsingleton S_.Idx := ⟨fun a b => funext fun k => k.elim0⟩
  constructor
  · intro i
    have h3 := Host.reduce_andi_all _ _ _ _ _ h1 (ix2 n i : S8192x8.Idx)
    have h4 : BitVec.ofBool (decide (N (ix2 n i.succ) < N (ix2 n i.castSucc))) = 1#1 := by
      refine Eq.trans (Eq.symm ?_) h3
      pointwise
      rw [show (⟨1 + i.val, by omega⟩ : Fin 9) = i.succ from Fin.ext (Nat.add_comm _ _)]
      rfl
    by_contra hc
    rw [decide_eq_false hc] at h4
    exact absurd h4 (by decide)
  · have h3 := Host.reduce_andi_all _ _ _ _ _ h2 (ix1 n : S8192.Idx)
    have h4 : BitVec.ofBool (decide (N (ix2 n 0) < ⊤)) = 1#1 := by
      refine Eq.trans (Eq.symm ?_) h3
      pointwise
      rw [show Ideal.ofBits .f32 0x7F800000#32 = ⊤ from by simp [Ideal.ofBits, Ideal.ieee]]
    by_contra hc
    rw [decide_eq_false hc] at h4
    exact absurd h4 (by decide)

/-- The eight largest scores of a row of scores. -/
def best (s : Fin 8192 → EReal) (i : Fin 8) : EReal := s (Ref.place s i)

theorem lists (s : Fin 8192 → EReal) (h : s (Ref.ord s ⟨8, by omega⟩) < s (Ref.ord s ⟨7, by omega⟩)) : Lists s (best s) (Ref.place s) where
  inj i j hij := by
    have := Ref.ord_inj s hij
    exact Fin.ext (Fin.mk.inj_iff.mp this)
  val i := rfl
  mem l hl := by
    obtain ⟨k, rfl⟩ := Ref.ord_surj s l
    by_cases hk : k.val < 8
    · exact ⟨⟨k.val, hk⟩, rfl⟩
    · have h8 : s (Ref.ord s k) ≤ s (Ref.ord s ⟨8, by omega⟩) := Ref.ord_antitone s (show (⟨8, by omega⟩ : Fin 8192) ≤ k from Fin.le_def.mpr (by show 8 ≤ k.val; omega))
      exact absurd (hl.trans h8) (not_le.mpr h)

/-- The precondition, of the eight largest scores of a row. -/
theorem of_pre (x : FVec Ideal S8x64x32x32 .f32) (mp : FVec Ideal S8192x64 .f32)
    (h : Cert.Pre_separated.fn (F := Ideal) x mp = fun _ => 1#1) (n : Fin 8192) :
    StrictAnti (best (Ref.row (Ref.att (Ref.queries x) mp) n)) ∧ ⊥ < best (Ref.row (Ref.att (Ref.queries x) mp) n) 7
      ∧ best (Ref.row (Ref.att (Ref.queries x) mp) n) 0 < ⊤
      ∧ Lists (Ref.row (Ref.att (Ref.queries x) mp) n) (best (Ref.row (Ref.att (Ref.queries x) mp) n)) (Ref.place (Ref.row (Ref.att (Ref.queries x) mp) n)) := by
  obtain ⟨h1, h2⟩ := decode x mp h n
  simp only [nine_apply] at h1 h2
  generalize Ref.row (Ref.att (Ref.queries x) mp) n = s at h1 h2
  refine ⟨Fin.strictAnti_iff_succ_lt.mpr fun i => ?_, bot_le.trans_lt (h1 7), h2, lists s (h1 7)⟩
  exact h1 i.castSucc

end Separated
-- ==== Proof.NetCount.lean ====
/-
  What the network keeps, counted: of the truth values of any test that a maximum passes when one of its two arguments does
  and a minimum when both do, the eight results hold as many as the sixty-four arguments, up to eight.
-/
module

public import proofs.«01_k».proof.Proof.Net
public import Mathlib.Data.EReal.Basic
public import Mathlib.Algebra.BigOperators.Fin
public import Mathlib.Tactic.IntervalCases

@[expose] public section

namespace Net

/-- How many of eight truth values are true. -/
def cnt (v : Oct Bool) : ℕ :=
  v.x0.toNat + v.x1.toNat + v.x2.toNat + v.x3.toNat + v.x4.toNat + v.x5.toNat + v.x6.toNat + v.x7.toNat

/-- Eight truth values, the first `n` of them true. -/
def dn (n : ℕ) : Oct Bool :=
  ⟨decide (0 < n), decide (1 < n), decide (2 < n), decide (3 < n), decide (4 < n), decide (5 < n), decide (6 < n), decide (7 < n)⟩

theorem cnt_le (v : Oct Bool) : cnt v ≤ 8 := by
  obtain ⟨a, b, c, d, e, f, g, h⟩ := v
  have := Bool.toNat_le a; have := Bool.toNat_le b; have := Bool.toNat_le c; have := Bool.toNat_le d
  have := Bool.toNat_le e; have := Bool.toNat_le f; have := Bool.toNat_le g; have := Bool.toNat_le h
  simp only [cnt]; omega

/-- Truth values are sorted downwards. -/
theorem sort8_bool (v : Oct Bool) : sort8 (· || ·) (· && ·) v = dn (cnt v) := by
  obtain ⟨a, b, c, d, e, f, g, h⟩ := v
  cases a <;> cases b <;> cases c <;> cases d <;> cases e <;> cases f <;> cases g <;> cases h <;> rfl

/-- Two sorted octets are merged. -/
theorem merge8_bool (a b : ℕ) (ha : a ≤ 8) (hb : b ≤ 8) : merge8 (· || ·) (· && ·) (dn a) (dn b) = dn (min 8 (a + b)) := by
  interval_cases a <;> interval_cases b <;> rfl

/-- Of two sorted octets the eight largest are kept. -/
theorem top8_bool (a b : ℕ) (ha : a ≤ 8) (hb : b ≤ 8) : cnt (top8 (· || ·) (dn a) (dn b)) = min 8 (a + b) := by
  interval_cases a <;> interval_cases b <;> rfl

/-- The whole network on truth values. -/
theorem net_bool (v : Fin 8 → Oct Bool) : cnt (net (· || ·) (· && ·) v) = min 8 (∑ g, cnt (v g)) := by
  have h := fun g => cnt_le (v g)
  have h0 := h 0; have h1 := h 1; have h2 := h 2; have h3 := h 3
  have h4 := h 4; have h5 := h 5; have h6 := h 6; have h7 := h 7
  simp only [net, sort8_bool]
  rw [merge8_bool _ _ h0 h1, merge8_bool _ _ h2 h3, merge8_bool _ _ h4 h5, merge8_bool _ _ h6 h7,
    merge8_bool _ _ (min_le_left _ _) (min_le_left _ _), merge8_bool _ _ (min_le_left _ _) (min_le_left _ _),
    top8_bool _ _ (min_le_left _ _) (min_le_left _ _), Fin.sum_univ_eight]
  omega

variable {α : Type} (hi lo : α → α → α) (p : α → Bool)

theorem cnt_map (v : Oct α) : cnt (v.map p) = ∑ i, (p (v.get i)).toNat := by
  rw [Fin.sum_univ_eight]; rfl

/-- The network on any values, counted by a test. -/
theorem net_count (hhi : ∀ a b, p (hi a b) = (p a || p b)) (hlo : ∀ a b, p (lo a b) = (p a && p b)) (v : Fin 8 → Oct α) :
    ∑ i, (p ((net hi lo v).get i)).toNat = min 8 (∑ g, ∑ i, (p ((v g).get i)).toNat) := by
  rw [← cnt_map, net_map hi lo (· || ·) (· && ·) p hhi hlo, net_bool]
  simp only [cnt_map]

end Net
-- ==== Proof.CandRow.lean ====
/-
  The candidates of a row of scores over the extended reals: lane by lane, of any bound, as many candidates pass it as scores
  of the lane, up to eight.
-/
module

public import proofs.«01_k».proof.Proof.Cand
public import proofs.«01_k».proof.Proof.NetCount
public import proofs.«01_k».proof.Proof.TopEight
public import Idealize.ShloMosaic.Lib.Pointwise
public import Idealize.ShloMosaic.PureOps.Ideal

@[expose] public section

noncomputable section

namespace Cert.KernelIdeal.Hand

open Cert.KernelIdeal Cert.KernelIdeal.Gen
open Idealize.ShloMosaic Idealize.ShloMosaic.TcCoe
open scoped BigOperators

/-- Column `128 i + l` of the joined candidates is lane `l` of the `i`-th. -/
theorem join_apply (v : Net.Oct (FVec Ideal S16x128 .f32)) (q : Fin 16) (i : Fin 8) (l : Fin 128) :
    join v (ix2 q ⟨l.val + 128 * i.val, by omega⟩) = v.get i (ix2 q l) := by
  unfold join
  have hl := l.isLt
  have key : ∀ (f : FVec Ideal S16x128 .f32) (k : ℕ) (hk : k < 128), k = l.val → f (ix2 q ⟨k, hk⟩) = f (ix2 q l) := by
    rintro f k hk rfl
    rfl
  obtain ⟨i, hi⟩ := i
  pointwise
  interval_cases i
  · exact (dif_pos (by omega)).trans (key v.x0 _ _ (by omega))
  · rw [dif_neg (by omega)]
    exact (dif_pos (by omega)).trans (key v.x1 _ _ (by omega))
  · rw [dif_neg (by omega), dif_neg (by omega)]
    exact (dif_pos (by omega)).trans (key v.x2 _ _ (by omega))
  · rw [dif_neg (by omega), dif_neg (by omega), dif_neg (by omega)]
    exact (dif_pos (by omega)).trans (key v.x3 _ _ (by omega))
  · rw [dif_neg (by omega), dif_neg (by omega), dif_neg (by omega), dif_neg (by omega)]
    exact (dif_pos (by omega)).trans (key v.x4 _ _ (by omega))
  · rw [dif_neg (by omega), dif_neg (by omega), dif_neg (by omega), dif_neg (by omega), dif_neg (by omega)]
    exact (dif_pos (by omega)).trans (key v.x5 _ _ (by omega))
  · rw [dif_neg (by omega), dif_neg (by omega), dif_neg (by omega), dif_neg (by omega), dif_neg (by omega), dif_neg (by omega)]
    exact (dif_pos (by omega)).trans (key v.x6 _ _ (by omega))
  · rw [dif_neg (by omega), dif_neg (by omega), dif_neg (by omega), dif_neg (by omega), dif_neg (by omega), dif_neg (by omega), dif_neg (by omega)]
    exact key v.x7 _ _ (by omega)

/-- Lane `l` of lane column `c`. -/
theorem sl_apply (w : Vec Ideal S16x8192 .f32) (c : Fin 64) (q : Fin 16) (l : Fin 128) :
    sl w c (ix2 q l) = w (ix2 q ⟨l.val + 128 * c.val, by omega⟩) := by
  unfold sl
  pointwise
  exact congrArg (fun k => w (ix2 q k)) (Fin.ext (Nat.add_comm _ _))

/-- A row of a block of scores. -/
def rowOf {n : ℕ} (X : Vec Ideal ⟨2, ![256, n]⟩ .f32) (r : Fin 256) : Fin n → EReal := fun j => X (ix2 r j)

/-- An octet of lane columns at an element. -/
theorem octs_get (w : Vec Ideal S16x8192 .f32) (g i : Fin 8) (q : Fin 16) (l : Fin 128) :
    (octs w g).get i (ix2 q l) = w (ix2 q ⟨l.val + 128 * (8 * g.val + i.val), by omega⟩) := by
  obtain ⟨i, hi⟩ := i
  interval_cases i <;> exact sl_apply w _ q l

theorem get_map {α β : Type} (f : α → β) (v : Net.Oct α) (i : Fin 8) : (v.map f).get i = f (v.get i) := by
  obtain ⟨i, hi⟩ := i
  interval_cases i <;> rfl

/-- A candidate: the network on the scores of its row and lane. -/
theorem cand_apply (X : Vec Ideal S256x8192 .f32) (r : Fin 256) (i : Fin 8) (l : Fin 128) :
    rowOf (cand X) r ⟨l.val + 128 * i.val, by omega⟩
      = (Net.net max min fun g => (octs (rowsOf X ⟨r.val / 16, by omega⟩) g).map fun f => f (ix2 ⟨r.val % 16, Nat.mod_lt _ (by decide)⟩ l)).get i := by
  show netPay (rowsOf X ⟨r.val / 16, _⟩) (ix2 ⟨r.val % 16, _⟩ ⟨l.val + 128 * i.val, _⟩) = _
  unfold netPay
  rw [show ∀ (v : FVec Ideal S16x1024 .f32) (h : S16x1024.ShapeCasts S16x1024), shapeCast S16x1024 v h = v from
    fun v h => by funext j; pointwise]
  rw [join_apply, ← Net.net_map maximumf minimumf max min (fun f : FVec Ideal S16x128 .f32 => f (ix2 ⟨r.val % 16, Nat.mod_lt _ (by decide)⟩ l))
    (fun _ _ => rfl) (fun _ _ => rfl), get_map]

/-- Lane by lane, as many candidates pass a test as scores, up to eight. -/
theorem cand_count (X : Vec Ideal S256x8192 .f32) (r : Fin 256) (l : Fin 128) (p : EReal → Bool)
    (hmax : ∀ a b, p (max a b) = (p a || p b)) (hmin : ∀ a b, p (min a b) = (p a && p b)) :
    ∑ i : Fin 8, (p (rowOf (cand X) r ⟨l.val + 128 * i.val, by omega⟩)).toNat
      = min 8 (∑ g : Fin 8, ∑ i : Fin 8, (p (rowOf X r ⟨l.val + 128 * (8 * g.val + i.val), by omega⟩)).toNat) := by
  simp only [cand_apply]
  rw [Net.net_count max min p hmax hmin]
  simp only [get_map, octs_get]
  have e : ∀ k : Fin 8192, rowsOf X ⟨r.val / 16, by omega⟩ (ix2 ⟨r.val % 16, Nat.mod_lt _ (by decide)⟩ k) = rowOf X r k := by
    intro k
    show X (ix2 ⟨16 * (r.val / 16) + r.val % 16, _⟩ k) = X (ix2 r k)
    exact congrArg (fun k' => X (ix2 k' k)) (Fin.ext (Nat.div_add_mod _ _))
  simp only [e]

open TopEight in
/-- Where at most eight scores of a row pass a test, as many of its candidates do. -/
theorem cand_num (X : Vec Ideal S256x8192 .f32) (r : Fin 256) (p : EReal → Bool)
    (hmax : ∀ a b, p (max a b) = (p a || p b)) (hmin : ∀ a b, p (min a b) = (p a && p b)) (h : num (rowOf X r) p ≤ 8) :
    num (rowOf (cand X) r) p = num (rowOf X r) p := by
  have e1 : ∀ f : Fin 1024 → ℕ, ∑ k, f k = ∑ l : Fin 128, ∑ i : Fin 8, f ⟨l.val + 128 * i.val, by omega⟩ := by
    intro f
    rw [Finset.sum_comm, ← Fintype.sum_prod_type']
    exact (Equiv.sum_comp (finProdFinEquiv (m := 8) (n := 128)) f).symm
  have e2 : ∀ f : Fin 8192 → ℕ, ∑ k, f k = ∑ l : Fin 128, ∑ g : Fin 8, ∑ i : Fin 8, f ⟨l.val + 128 * (8 * g.val + i.val), by omega⟩ := by
    intro f
    have h64 : ∀ h : Fin 64 → ℕ, ∑ c, h c = ∑ g : Fin 8, ∑ i : Fin 8, h ⟨8 * g.val + i.val, by omega⟩ := by
      intro h
      rw [← Fintype.sum_prod_type']
      refine (Equiv.sum_comp (finProdFinEquiv (m := 8) (n := 8)) h).symm.trans (Finset.sum_congr rfl fun k _ => ?_)
      exact congrArg h (Fin.ext (Nat.add_comm _ _))
    rw [← Equiv.sum_comp (finProdFinEquiv (m := 64) (n := 128)) f, Fintype.sum_prod_type, Finset.sum_comm]
    exact Finset.sum_congr rfl fun l _ => h64 fun c => f (finProdFinEquiv (c, l))
  unfold num at h ⊢
  rw [e2] at h ⊢
  rw [e1]
  refine Finset.sum_congr rfl fun l _ => ?_
  rw [cand_count X r l p hmax hmin]
  refine min_eq_right ((Finset.single_le_sum (f := fun l : Fin 128 => ∑ g : Fin 8, ∑ i : Fin 8, (p (rowOf X r ⟨l.val + 128 * (8 * g.val + i.val), by omega⟩)).toNat)
    (fun _ _ => Nat.zero_le _) (Finset.mem_univ l)).trans h)

open TopEight in
/-- A row's candidates hold its eight largest scores, where they are distinct. -/
theorem cand_lists (X : Vec Ideal S256x8192 .f32) (r : Fin 256) (v : Fin 8 → EReal) (hv : StrictAnti v) (e : Fin 8 → Fin 8192)
    (h : Lists (rowOf X r) v e) : ∃ e', Lists (rowOf (cand X) r) v e' := by
  refine lists_of_num _ v hv (fun i => ?_) fun i => ?_
  · have hn := num_le _ v hv e h i
    rw [cand_num X r _ (fun a b => by simp [le_max_iff]) (fun a b => by simp [le_min_iff]) (by omega), hn]
  · have hn := num_lt _ v hv e h i
    rw [cand_num X r _ (fun a b => by simp [lt_max_iff]) (fun a b => by simp [lt_min_iff]) (by omega), hn]

end Cert.KernelIdeal.Hand
-- ==== Proof.Equation.lean ====
/-
  The equation of one query: the exponentials of the eight largest scores against the memory, divided by their sum, are the
  softmax of the eight, shifted by the largest, against the memory.
-/
module

public import proofs.«01_k».proof.Proof.TopEight
public import proofs.«01_k».proof.Proof.RefRow
public import Idealize.ShloMosaic.PureOps.Ideal
public import Mathlib.Analysis.SpecialFunctions.Pow.Real

@[expose] public section

noncomputable section

namespace Equation

open Idealize.ShloMosaic TopEight
open scoped BigOperators

/-- The kernel's exponential: a power of two of a multiple by the inverse of log 2. -/
def pexp (x : EReal) : EReal := Ideal.exp2 (x * (((Real.log 2)⁻¹ : ℝ) : EReal))

theorem pexp_coe (a : ℝ) : pexp (a : EReal) = ((Real.exp a : ℝ) : EReal) := by
  unfold pexp
  rw [← EReal.coe_mul]
  show ((Real.rpow 2 (a * (Real.log 2)⁻¹) : ℝ) : EReal) = _
  congr 1
  show (2 : ℝ) ^ (a * (Real.log 2)⁻¹) = _
  rw [Real.rpow_def_of_pos (by norm_num)]
  congr 1
  have : Real.log 2 ≠ 0 := (Real.log_pos (by norm_num)).ne'
  field_simp

/-- A factor that is real and not negative goes into a sum. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The largest of eight real numbers in falling order is the first. -/
theorem peak_eq (v : Fin 8 → EReal) (hv : StrictAnti v) : Ref.peak v = v 0 := by
  unfold Ref.peak
  rw [max_eq_right bot_le]
  exact top_eq v (v 0) (fun l => hv.antitone (Fin.zero_le l)) ⟨0, rfl⟩

/-- The softmax of eight real numbers, the shift cancelled. -/
theorem softRow_coe (a : Fin 8 → ℝ) (ha : StrictAnti fun i => (a i : EReal)) (i : Fin 8) :
    Ref.softRow (fun i => (a i : EReal)) i = ((Real.exp (a i) * (∑ k, Real.exp (a k))⁻¹ : ℝ) : EReal) := by
  unfold Ref.softRow
  rw [peak_eq _ ha]
  have hx : ∀ k, Ideal.exp ((a k : EReal) - (a 0 : EReal)) = ((Real.exp (a k - a 0) : ℝ) : EReal) := by
    intro k
    rw [← EReal.coe_sub]
    rfl
  simp only [hx]
  rw [coe_sum]
  have hpos : 0 < ∑ k, Real.exp (a k - a 0) := Finset.sum_pos (fun k _ => Real.exp_pos _) Finset.univ_nonempty
  unfold Ideal.div
  rw [if_neg (by exact_mod_cast hpos.ne'), ← EReal.coe_inv, ← EReal.coe_mul]
  congr 1
  simp only [Real.exp_sub]
  rw [← Finset.sum_div]
  have h0 := (Real.exp_pos (a 0)).ne'
  have hp : (∑ k, Real.exp (a k)) ≠ 0 := (Finset.sum_pos (fun k _ => Real.exp_pos _) Finset.univ_nonempty).ne'
  field_simp

/-- The equation. -/
theorem row_eq (s : Fin 8192 → EReal) (C : Fin 1024 → EReal) (v : Fin 8 → EReal) (hv : StrictAnti v) (e : Fin 8 → Fin 8192)
    (hs : Lists s v e) (e' : Fin 8 → Fin 1024) (hC : Lists C v e') (htop : v 0 < ⊤) (hbot : ⊥ < v 7) (w : Fin 8192 → EReal)
    (p : Fin 8192 → EReal) (hp : ∀ i, p (e i) = Ref.softRow v i) (hp0 : ∀ j, (∀ i, e i ≠ j) → p j = 0) :
    Ideal.div (∑ j, (if v 7 ≤ s j then pexp (s j) else 0) * w j) (∑ l, if v 7 ≤ C l then pexp (C l) else 0) = ∑ j, p j * w j := by
  have hreal : ∀ i, ∃ a : ℝ, (a : EReal) = v i := fun i =>
    ⟨(v i).toReal, EReal.coe_toReal ((hv.antitone (Fin.zero_le i)).trans_lt htop).ne (hbot.trans_le (last_le v hv i)).ne'⟩
  choose a ha using hreal
  obtain rfl : v = fun i => (a i : EReal) := funext fun i => (ha i).symm
  rw [sum_listed s _ hv e hs (fun j => (if (a 7 : EReal) ≤ s j then pexp (s j) else 0) * w j) (fun l hl => by
      show (if (a 7 : EReal) ≤ s l then pexp (s l) else 0) * w l = 0
      rw [if_neg hl, zero_mul]),
    sum_listed C _ hv e' hC (fun l => if (a 7 : EReal) ≤ C l then pexp (C l) else 0) (fun l hl => if_neg hl),
    sum_listed s _ hv e hs (fun j => p j * w j) (fun l hl => by
      show p l * w l = 0
      rw [hp0 l (fun i hi => hl (by rw [← hi, hs.val]; exact last_le _ hv i)), zero_mul])]
  have h1 : ∀ i, (if (a 7 : EReal) ≤ s (e i) then pexp (s (e i)) else 0) = ((Real.exp (a i) : ℝ) : EReal) := by
    intro i
    rw [hs.val, if_pos (last_le _ hv i), pexp_coe]
  have h2 : ∀ i, (if (a 7 : EReal) ≤ C (e' i) then pexp (C (e' i)) else 0) = ((Real.exp (a i) : ℝ) : EReal) := by
    intro i
    rw [hC.val, if_pos (last_le _ hv i), pexp_coe]
  simp only [h1, h2, hp, softRow_coe a hv]
  rw [coe_sum]
  have hpos : 0 < ∑ k, Real.exp (a k) := Finset.sum_pos (fun k _ => Real.exp_pos _) Finset.univ_nonempty
  unfold Ideal.div
  rw [if_neg (by exact_mod_cast hpos.ne'), ← EReal.coe_inv, sum_mul_coe _ _ _ (inv_nonneg.mpr hpos.le)]
  refine Finset.sum_congr rfl fun i _ => ?_
  rw [EReal.coe_mul, mul_assoc, mul_comm (w (e i)), mul_assoc]

end Equation
-- ==== Proof.KernelRow.lean ====
/-
  What a block of the kernel's results holds, element by element over the extended reals: the rounds of maxima over a row's
  candidates, the threshold they end in, and the quotient of the two sums above it.
-/
module

public import proofs.«01_k».proof.Proof.IdealRun
public import proofs.«01_k».proof.Proof.CandRow
public import proofs.«01_k».proof.Proof.Equation
public import Idealize.ShloMosaic.PureOps.IdealRules

@[expose] public section

noncomputable section

namespace Cert.KernelIdeal.Hand

open Cert.KernelIdeal Cert.KernelIdeal.Gen
open Idealize.ShloMosaic Idealize.ShloMosaic.TcCoe
open TopEight
open scoped BigOperators

/-- A row's largest candidate, in a column. -/
def peakCol (v : FVec Ideal S256x1024 .f32) : FVec Ideal S256x1 .f32 :=
  shapeCast S256x1 (multiReduction .maximumf [1] S256 v 0xFF800000#32 reduces_S256x1024_S256 (.inl rfl) rfl) shapeCasts_S256_S256x1

/-- One round: each row's largest candidates are masked. -/
def step (v : FVec Ideal S256x1024 .f32) : FVec Ideal S256x1024 .f32 :=
  select (cmpf .oge v (broadcastTo S256x1024 (peakCol v) broadcasts_S256x1_S256x1024))
    (broadcast S256x1024 (Named.named κ "mask" 0xFF61B1E6#32)) v

/-- The exponentials of the entries of a matrix that are at least their row's threshold; zero elsewhere. -/
def kept (s : Shape) (h : S256x1.Broadcasts s) (t : FVec Ideal S256x1 .f32) (v : FVec Ideal s .f32) : FVec Ideal s .f32 :=
  select (cmpf .oge v (broadcastTo s t h)) (exp2 (mulf v (broadcast s (Named.named κ "log2e" 0x3FB8AA3B#32))))
    (broadcast s (Scalar.ofBits .f32 0x00000000#32))

theorem outv_eq (mp : FVec Ideal S8192x64 .f32) (X : FVec Ideal S256x8192 .f32) :
    outv (F := Ideal) mp X =
      divf (matmul dot_S256x8192_S8192x64_S256x64_1_0_0_1_n_n none
          (kept S256x8192 broadcasts_S256x1_S256x8192 (peakCol (step (step (step (step (step (step (step (cand (F := Ideal) X)))))))))  X) mp
          (constant S256x64 .f32 0x00000000#32))
        (broadcastTo S256x64 (shapeCast S256x1 (multiReduction .add [1] S256
          (kept S256x1024 broadcasts_S256x1_S256x1024 (peakCol (step (step (step (step (step (step (step (cand (F := Ideal) X)))))))))  (cand (F := Ideal) X))
          0x00000000#32 reduces_S256x1024_S256 (.inl rfl) rfl) shapeCasts_S256_S256x1) broadcasts_S256x1_S256x64) := rfl

theorem peakCol_apply (v : FVec Ideal S256x1024 .f32) (r : Fin 256) : peakCol v (ix2 r 0) = top (rowOf v r) := by
  unfold peakCol top
  pointwise
  rw [Ref.ofBits_bot]
  rfl

/-- The mask is −∞. -/
theorem mask_bot : Named.named (F := Ideal) κ "mask" (φ := .f32) 0xFF61B1E6#32 = (⊥ : EReal) :=
  IdealRules.named_const.ideal_named_scalar _ _ _ _ rfl

/-- The factor of the exponents is the inverse of the natural logarithm of two. -/
theorem log2e_inv : Named.named (F := Ideal) κ "log2e" (φ := .f32) 0x3FB8AA3B#32 = (((Real.log 2)⁻¹ : ℝ) : EReal) :=
  IdealRules.named_const.ideal_named_scalar _ _ _ _ rfl

theorem step_row (v : FVec Ideal S256x1024 .f32) (r : Fin 256) : rowOf (step v) r = mask (top (rowOf v r)) (rowOf v r) := by
  funext l
  unfold mask
  rw [← peakCol_apply]
  unfold rowOf step
  pointwise
  rw [mask_bot]

/-- Seven rounds leave the eighth largest candidate on top. -/
theorem peak_rounds (v : FVec Ideal S256x1024 .f32) (r : Fin 256) :
    peakCol (step (step (step (step (step (step (step v))))))) (ix2 r 0) = top (rounds (rowOf v r) 7) := by
  rw [peakCol_apply]
  simp only [step_row]
  rfl

theorem kept_apply (n : Nat) (h : S256x1.Broadcasts ⟨2, ![256, n]⟩) (t : FVec Ideal S256x1 .f32) (v : FVec Ideal ⟨2, ![256, n]⟩ .f32)
    (r : Fin 256) (j : Fin n) :
    kept ⟨2, ![256, n]⟩ h t v (ix2 r j) = if t (ix2 r 0) ≤ rowOf v r j then Equation.pexp (rowOf v r j) else 0 := by
  unfold kept Equation.pexp rowOf
  pointwise
  rw [log2e_inv]
  rfl

/-- An element of a block of results. -/
theorem outv_apply (mp : FVec Ideal S8192x64 .f32) (X : FVec Ideal S256x8192 .f32) (r : Fin 256) (d : Fin 64) (t : EReal)
    (ht : top (rounds (rowOf (cand (F := Ideal) X) r) 7) = t) :
    outv (F := Ideal) mp X (ix2 r d) =
      Ideal.div (∑ j, (if t ≤ rowOf X r j then Equation.pexp (rowOf X r j) else 0) * mp (ix2 j d))
        (∑ l, if t ≤ rowOf (cand (F := Ideal) X) r l then Equation.pexp (rowOf (cand (F := Ideal) X) r l) else 0) := by
  subst ht
  rw [outv_eq]
  simp only [← peak_rounds, ← kept_apply 8192 broadcasts_S256x1_S256x8192, ← kept_apply 1024 broadcasts_S256x1_S256x1024]
  generalize kept _ _ _ X = P
  generalize kept _ _ _ (cand (F := Ideal) X) = Q
  pointwise

theorem scores_apply (q : FVec Ideal S256x64 .f32) (mp : FVec Ideal S8192x64 .f32) (r : Fin 256) (j : Fin 8192) :
    scores (F := Ideal) q mp (ix2 r j) = ∑ k : Fin 64, q (ix2 r k) * mp (ix2 j k) := by
  unfold scores k0_pay492 k0_pay1
  pointwise

end Cert.KernelIdeal.Hand
-- ==== Proof.OutArr.lean ====
/-
  The kernel's output array, row by row: a row's results are those of a block whose scores hold the row's scores.
-/
module

public import proofs.«01_k».proof.Proof.KernelRow
public import proofs.«01_k».proof.Proof.Frames
public import proofs.«01_k».proof.Proof.RefRow
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic Idealize.ShloMosaic.Pipeline
open Idealize.SL.Sem
open scoped BigOperators

variable (m : (ℓ : Loc nD τ sig) → Buf (Elt Ideal) ℓ)

/-- The queries and the memory of a core. -/
def qs (c : Dev nD) : FVec Ideal S8192x64 .f32 := Ref.queries (m ((c.tc : Thread nD τ).loc main_arg0))
def mem (c : Dev nD) : FVec Ideal S8192x64 .f32 := m ((c.tc : Thread nD τ).loc main_arg1)

/-- The region finds the queries in the first window's array. -/
theorem V_queries (c : Dev nD) : V m c main_call0_v1 = qs m c := by
  entry_read
  rfl

/-- The first window's block at a point, the second's, the output's. -/
theorem idx0 : ∀ t : Fin cfg0.N, win0_0.index t = ![min t.val 31, 0] := by decide +kernel
theorem idx1 : ∀ t : Fin cfg0.N, win0_1.index t = ![0, 0] := by decide +kernel
theorem idx2 : ∀ t : Fin cfg0.N, win0_2.index t = ![t.val - 1, 0] := by decide +kernel

theorem blk1_eq (c : Dev nD) (t : Fin cfg0.N) (j : Fin 8192) (k : Fin 64) : iblk m c 1 t (ix2 j k) = mem m c (ix2 j k) := by
  unfold mem
  blk_ext [iblk, V_main_arg1, idx1 t]

theorem blk0_eq (c : Dev nD) (t : Fin cfg0.N) (h : t.val < 32) (r : Fin 256) (k : Fin 64) :
    iblk m c 0 t (ix2 r k) = qs m c (ix2 ⟨t.val * 256 + r.val, by omega⟩ k) := by
  rw [← V_queries]
  blk_ext [iblk, idx0 t]

/-- The scores a point stores. -/
theorem sc_row (c : Dev nD) (t : Fin cfg0.N) (h : t.val < 32) (r : Fin 256) :
    rowOf (sc m c t) r = Ref.row (Ref.att (qs m c) (mem m c)) ⟨t.val * 256 + r.val, by omega⟩ := by
  funext j
  unfold rowOf sc Ref.row
  rw [scores_apply, Ref.att_apply]
  exact Finset.sum_congr rfl fun k _ => by rw [blk0_eq m c t h, blk1_eq]

/-- The output array, of any description of the results of a row that only looks at the row's scores. -/
theorem outArr_eq (c : Dev nD) (G : Fin 8192 → Fin 64 → EReal)
    (H : ∀ (X : FVec Ideal S256x8192 .f32) (r : Fin 256) (n : Fin 8192), rowOf X r = Ref.row (Ref.att (qs m c) (mem m c)) n →
      ∀ d, outv (F := Ideal) (mem m c) X (ix2 r d) = G n d) :
    outArr m c = fun i => G (i 0) (i 1) := by
  unfold outArr
  refine (dats m 0 c).arrAt_eq_of_covers 2 _ (by decide +kernel) fun t hf y => ?_
  have h0 := flush_ne t hf
  blk_simp
  have hN : t.val < 33 := t.isLt
  have hr : (y 0).val < 256 := (y 0).isLt
  have hy : y = (ix2 (y 0) (y 1) : S256x64.Idx) := by
    funext a
    fin_cases a <;> rfl
  have hn : (win0_2.blk t).view.emb y 0 = (⟨(t.val - 1) * 256 + (y 0).val, by omega⟩ : Fin 8192) := by
    apply Fin.ext
    blk_simp [idx2 t]
  have hd : (win0_2.blk t).view.emb y 1 = (y 1 : Fin 64) := by
    apply Fin.ext
    blk_simp [idx2 t]
  rw [hn, hd]
  refine (congrArg (res m c t) hy).trans ?_
  unfold res
  rw [show iblk m c 1 t = mem m c from funext fun i => by rw [show i = (ix2 (i 0) (i 1) : S8192x64.Idx) from by funext a; fin_cases a <;> rfl]; exact blk1_eq m c t (i 0) (i 1)]
  exact H _ _ _ (sc_row m c ⟨t.val - 1, _⟩ (by show t.val - 1 < 32; omega) (y 0)) (y 1)

end Cert.KernelIdeal.Hand
-- ==== Proof.Algebraic.lean ====
/-
  The kernel and the reference agree: under the precondition every row of the kernel's output is the reference's row.
-/
module

public import proofs.«01_k».proof.Proof.OutArr
public import proofs.«01_k».proof.Proof.Separated

@[expose] public section

noncomputable section

namespace Cert.Proof

open Cert.KernelIdeal Cert.KernelIdeal.Gen Cert.KernelIdeal.Hand
open Idealize.ShloMosaic Idealize.ShloMosaic.TcCoe
open Idealize.SL.Sem
open TopEight

attribute [local instance] Separated.facts

variable (m : (ℓ : Loc nD τ sig) → Buf (Elt Ideal) ℓ)

/-- The kernel's output array is the reference's product of the sparse attention with the memory. -/
theorem outArr_out (c : Dev nD)
    (h : Cert.Pre_separated.fn (F := Ideal) (m ((c.tc : Thread nD τ).loc main_arg0)) (m ((c.tc : Thread nD τ).loc main_arg1)) = fun _ => 1#1) :
    outArr m c = Ref.out (Ref.att (qs m c) (mem m c)) (mem m c) := by
  rw [outArr_eq m c (fun n d => Ref.out (Ref.att (qs m c) (mem m c)) (mem m c) (ix2 n d)) fun X r n hX d => ?_]
  · funext i
    exact congrArg _ (funext fun a => by fin_cases a <;> rfl)
  obtain ⟨hv, hbot, htop, hl⟩ := Separated.of_pre _ _ h n
  generalize hs : Separated.best (Ref.row (Ref.att (Ref.queries (m ((c.tc : Thread nD τ).loc main_arg0))) (m ((c.tc : Thread nD τ).loc main_arg1))) n) = v at hv hbot htop hl
  have hlX : Lists (rowOf X r) v (Ref.place (Ref.row (Ref.att (qs m c) (mem m c)) n)) := by rw [hX]; exact hl
  obtain ⟨e', hC⟩ := cand_lists X r v hv _ hlX
  rw [outv_apply _ _ _ _ (v 7) (top_rounds _ v hv e' hC 7 (by omega)).1, Ref.out_apply]
  exact Equation.row_eq _ _ v hv _ hlX e' hC htop hbot (fun j => mem m c (ix2 j d)) (fun j => Ref.sparse (Ref.att (qs m c) (mem m c)) (ix2 n j))
    (fun i => by rw [Ref.sparse_hit, ← hs]; rfl) (fun j hj => Ref.sparse_miss _ n j hj)

/-- The value claim. -/
theorem algebraic_ : Cert.algebraic_KernelIdeal_ReferenceIdeal_pre_separated := by
  intro m g m' g' hpre hagree
  refine ⟨fun c => transpose S8x64x32x32 [0, 3, 1, 2] (shapeCast S8x32x32x64 (outArr m c) shapeCasts_S8192x64_S8x32x32x64) transposes_S8x32x32x64_S8x64x32x32_0_3_1_2,
    (θ_run Cert.KernelIdeal.defs _ _).mono (fun _ h => h.1) (run_value m g),
    (θ_run Cert.ReferenceIdeal.defs _ _).mono (fun r h c => ⟨(h c).1.trans ?_, (h c).2⟩) (Cert.ReferenceIdeal.Value.run (F := Ideal) m' g')⟩
  rw [Ref.res_eq, (hagree c).1, (hagree c).2]
  show _ = transpose S8x64x32x32 [0, 3, 1, 2] (shapeCast S8x32x32x64 (outArr m c) shapeCasts_S8192x64_S8x32x32x64) transposes_S8x32x32x64_S8x64x32x32_0_3_1_2
  rw [outArr_out m c (hpre c)]
  rfl

end Cert.Proof

end
-- ==== Proof.lean ====
/-
  The claim: the frames of the kernel, of the idealized kernel and of the reference, the two named constants, and the equality
  of the results under the precondition.
-/
module

public import proofs.«01_k».proof.Defs
public import proofs.«01_k».proof.Proof.KernelRun
public import proofs.«01_k».proof.Proof.Frames
public import proofs.«01_k».proof.Proof.Separated
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Separated.facts,
  fun m ρ _ => Cert.Kernel.Hand.frame_main (F := Bits) m ρ, frame_pi, fun m ρ _ => frame_pi m ρ trivial,
  frame_ri, fun m ρ _ => frame_ri m ρ trivial, preserves_, algebraic_⟩

end Cert.Proof

end
